-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_norms [hPre_row_norms : Cert.Pre_row_norms.Facts] (m : (ℓ : Loc Cert.KernelIdeal.nD Cert.KernelIdeal.τ Cert.KernelIdeal.sig) → Buf (Elt Ideal) ℓ) : Prop :=
  ∀ c : Dev Cert.KernelIdeal.nD,
    (Cert.Pre_row_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_norms [hPre_row_norms : Cert.Pre_row_norms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_row_norms [hKernelIdeal : Cert.KernelIdeal.Facts] [hPre_row_norms : Cert.Pre_row_norms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_norms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_row_norms [hReferenceIdeal : Cert.ReferenceIdeal.Facts] [hPre_row_norms : Cert.Pre_row_norms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_norms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_row_norms [hKernelIdeal : Cert.KernelIdeal.Facts] [hReferenceIdeal : Cert.ReferenceIdeal.Facts] [hPre_row_norms : Cert.Pre_row_norms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_norms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_row_norms : Cert.Pre_row_norms.Facts),
    quiescent_Kernel (hKernel := hKernel)
    ∧ quiescent_KernelIdeal (hKernelIdeal := hKernelIdeal)
    ∧ quiescent_KernelIdeal_pre_row_norms (hKernelIdeal := hKernelIdeal) (hPre_row_norms := hPre_row_norms)
    ∧ quiescent_ReferenceIdeal (hReferenceIdeal := hReferenceIdeal)
    ∧ quiescent_ReferenceIdeal_pre_row_norms (hReferenceIdeal := hReferenceIdeal) (hPre_row_norms := hPre_row_norms)
    ∧ preserves_Kernel_KernelIdeal
    ∧ algebraic_KernelIdeal_ReferenceIdeal_pre_row_norms (hKernelIdeal := hKernelIdeal) (hReferenceIdeal := hReferenceIdeal) (hPre_row_norms := hPre_row_norms)
-- ==== Pre_row_norms.lean ====
abbrev S10000x128 : Shape := ⟨2, ![10000, 128]⟩
abbrev S2x320000 : Shape := ⟨2, ![2, 320000]⟩
abbrev S40x128 : Shape := ⟨2, ![40, 128]⟩
abbrev S40 : Shape := ⟨1, ![40]⟩
abbrev S_ : Shape := ⟨0, ![]⟩
abbrev S10000 : Shape := ⟨1, ![10000]⟩
abbrev S10000x1 : Shape := ⟨2, ![10000, 1]⟩

class Facts : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  reducesTo_S10000x1_S_d0_1 : S10000x1.ReducesTo [0, 1] S_

variable [Facts]

def fn_norm {F : FTy → Type} [FloatOps F] (arg0 : FVec F S10000x128 .f32) : FVec F S10000x1 .f32 :=
  let v0 : FVec F S10000x128 .f32 := mulf arg0 arg0
  let cst : FVec F S_ .f32 := constant S_ .f32 0x00000000#32
  let v1 : FVec F S10000 .f32 := (fun x v => Host.reduceAdd x v reducesTo_S10000x128_S10000_d1 h_S_) v0 cst
  let v2 : FVec F S10000x1 .f32 := broadcastInDim S10000x1 ![0] bcast_S10000_S10000x1_0 v1
  let v3 : FVec F S10000x1 .f32 := Host.sqrt v2
  v3

def fn {F : FTy → Type} [FloatOps F] (main_arg0 : FVec F S10000x128 .f32) (main_arg1 : IVec S2x320000 32) (main_arg2 : FVec F S40x128 .f32) (main_arg3 : FVec F S40 .f32) : IVec S_ 1 :=
  let main_v0 : FVec F S10000x1 .f32 := fn_norm (F := F) main_arg0
  let main_cst : FVec F S_ .f32 := constant S_ .f32 0x00000000#32
  let main_v1 : FVec F S10000x1 .f32 := broadcastInDim S10000x1 ![] bcast_S_S10000x1 main_cst
  let main_v2 : IVec S10000x1 1 := cmpf .oeq main_v0 main_v1
  let main_cst_0 : FVec F S_ .f32 := constant S_ .f32 0x26901D7D#32
  let main_v3 : FVec F S10000x1 .f32 := broadcastInDim S10000x1 ![] bcast_S_S10000x1 main_cst_0
  let main_v4 : IVec S10000x1 1 := cmpf .oge main_v0 main_v3
  let main_v5 : IVec S10000x1 1 := ori main_v2 main_v4
  let main_c : IVec S_ 1 := constantI S_ 1 1#1
  let main_v6 : IVec S_ 1 := (fun x v => Host.reduce IntOp.andi x v reducesTo_S10000x1_S_d0_1 h_S_) main_v5 main_c
  main_v6
-- ==== Kernel.lean ====
abbrev S10000x128 : Shape := ⟨2, ![10000, 128]⟩
abbrev S2x320000 : Shape := ⟨2, ![2, 320000]⟩
abbrev S40x128 : Shape := ⟨2, ![40, 128]⟩
abbrev S40 : Shape := ⟨1, ![40]⟩
abbrev S1x40 : Shape := ⟨2, ![1, 40]⟩
abbrev S10000x40 : Shape := ⟨2, ![10000, 40]⟩
abbrev S2x1000x128 : Shape := ⟨3, ![2, 1000, 128]⟩
abbrev S2 : Shape := ⟨1, ![2]⟩
abbrev S2x1000x40 : Shape := ⟨3, ![2, 1000, 40]⟩
abbrev S1 : Shape := ⟨1, ![1]⟩
abbrev S_ : Shape := ⟨0, ![]⟩
abbrev S1x1000x128 : Shape := ⟨3, ![1, 1000, 128]⟩
abbrev S1000x128 : Shape := ⟨2, ![1000, 128]⟩
abbrev S128x1 : Shape := ⟨2, ![128, 1]⟩
abbrev S1000x1 : Shape := ⟨2, ![1000, 1]⟩
abbrev S1000x40 : Shape := ⟨2, ![1000, 40]⟩
abbrev S1x1000x40 : Shape := ⟨3, ![1, 1000, 40]⟩

abbrev nBuf : Space → Nat
  | .hbm => 6
  | .vmem => 4
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S40x128, .f32⟩
  | .hbm, ⟨3, _⟩ => ⟨S40, .f32⟩
  | .hbm, ⟨4, _⟩ => ⟨S1x40, .f32⟩
  | .hbm, ⟨5, _⟩ => ⟨S10000x40, .f32⟩
  | .local _ .vmem, ⟨0, _⟩ => ⟨S40x128, .f32⟩
  | .local _ .vmem, ⟨1, _⟩ => ⟨S1x40, .f32⟩
  | .local _ .vmem, ⟨2, _⟩ => ⟨S2x1000x128, .f32⟩
  | .local _ .vmem, ⟨3, _⟩ => ⟨S2x1000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scoped0 : Ref sig .tc := ⟨.vmem, 2, rfl⟩
abbrev cc0_scoped2 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_15_r0 : BitVec 32 := 0#32
  let c2_i32_r0 : BitVec 32 := 2#32
  let v18_r0 : BitVec 32 := Scalar.remui c0_i32_15_r0 c2_i32_r0
  ![v18_r0.toNat]
def k0_off2 : Fin 3 → Nat :=
  let c0_i32_15_r0 : BitVec 32 := 0#32
  let c2_i32_r0 : BitVec 32 := 2#32
  let v18_r0 : BitVec 32 := Scalar.remui c0_i32_15_r0 c2_i32_r0
  let c0_i32_16_r0 : BitVec 32 := 0#32
  let c0_i32_17_r0 : BitVec 32 := 0#32
  ![v18_r0.toNat, 0, 0]
@[reducible] def k0_t1_loop : Scf.Loop 32 :=
  let c0_i32_26_r0 : BitVec 32 := 0#32
  let c10_i32_27_r0 : BitVec 32 := 10#32
  let v25_r0 : BitVec 32 := Scalar.addi c0_i32_26_r0 c10_i32_27_r0
  let c1_i32_28_r0 : BitVec 32 := 1#32
  ⟨c0_i32_26_r0, v25_r0, c1_i32_28_r0⟩
def k0_off3 (arg5_r0 : BitVec 32) : Fin 1 → Nat :=
  let c2_i32_113_r0 : BitVec 32 := 2#32
  let v165_r0 : BitVec 32 := Scalar.remui arg5_r0 c2_i32_113_r0
  ![v165_r0.toNat]
def k0_cond1 (k0_t1 : Fin k0_t1_loop.trips) (arg9_r0 : BitVec 32) : BitVec 1 :=
  let c0_i32_56_r0 : BitVec 32 := 0#32
  let v56_r0 : BitVec 32 := Scalar.addi arg9_r0 c0_i32_56_r0
  let true_63_r0 : BitVec 1 := 1#1
  let c1_i32_62_r0 : BitVec 32 := 1#32
  let v62_r0 : BitVec 32 := Scalar.addi arg9_r0 c1_i32_62_r0
  let v63_r0 : BitVec 32 := Scalar.select true_63_r0 v62_r0 arg9_r0
  let c10_i32_64_r0 : BitVec 32 := 10#32
  let v64_r0 : BitVec 1 := Scalar.cmpi .eq v63_r0 c10_i32_64_r0
  let c0_i32_65_r0 : BitVec 32 := 0#32
  let v65_r0 : BitVec 32 := Scalar.select v64_r0 c0_i32_65_r0 v63_r0
  let c0_i32_66_r0 : BitVec 32 := 0#32
  let v66_r0 : BitVec 32 := Scalar.addi v65_r0 c0_i32_66_r0
  let v72_r0 : BitVec 1 := Scalar.cmpi .ne v56_r0 v66_r0
  let c0_i32_26_r0 : BitVec 32 := 0#32
  let c1_i32_28_r0 : BitVec 32 := 1#32
  let arg4_r0 : BitVec 32 := Scf.iv c0_i32_26_r0 c1_i32_28_r0 k0_t1
  let c9_i32_72_r0 : BitVec 32 := 9#32
  let v73_r0 : BitVec 1 := Scalar.cmpi .sge arg4_r0 c9_i32_72_r0
  let true_73_r0 : BitVec 1 := 1#1
  let v74_r0 : BitVec 1 := Scalar.xori v73_r0 true_73_r0
  let v75_r0 : BitVec 1 := Scalar.andi v72_r0 v74_r0
  let true_74_r0 : BitVec 1 := 1#1
  let v76_r0 : BitVec 1 := Scalar.andi v75_r0 true_74_r0
  let v77_r0 : BitVec 32 := Scalar.extui v76_r0
  let c0_i32_75_r0 : BitVec 32 := 0#32
  let v78_r0 : BitVec 1 := Scalar.cmpi .ne v77_r0 c0_i32_75_r0
  v78_r0

def k0_off4 (arg5_r0 : BitVec 32) : Fin 3 → Nat :=
  let c2_i32_113_r0 : BitVec 32 := 2#32
  let v165_r0 : BitVec 32 := Scalar.remui arg5_r0 c2_i32_113_r0
  let c0_i32_115_r0 : BitVec 32 := 0#32
  let c0_i32_116_r0 : BitVec 32 := 0#32
  ![v165_r0.toNat, 0, 0]
def k0_off5 (arg9_r0 : BitVec 32) : Fin 2 → Nat :=
  let c1000_i32_114_r0 : BitVec 32 := 1000#32
  let true_63_r0 : BitVec 1 := 1#1
  let c1_i32_62_r0 : BitVec 32 := 1#32
  let v62_r0 : BitVec 32 := Scalar.addi arg9_r0 c1_i32_62_r0
  let v63_r0 : BitVec 32 := Scalar.select true_63_r0 v62_r0 arg9_r0
  let c10_i32_64_r0 : BitVec 32 := 10#32
  let v64_r0 : BitVec 1 := Scalar.cmpi .eq v63_r0 c10_i32_64_r0
  let c0_i32_65_r0 : BitVec 32 := 0#32
  let v65_r0 : BitVec 32 := Scalar.select v64_r0 c0_i32_65_r0 v63_r0
  let c0_i32_66_r0 : BitVec 32 := 0#32
  let v66_r0 : BitVec 32 := Scalar.addi v65_r0 c0_i32_66_r0
  let v166_r0 : BitVec 32 := Scalar.muli c1000_i32_114_r0 v66_r0
  let c0_i32_117_r0 : BitVec 32 := 0#32
  ![v166_r0.toNat, 0]
def k0_off6 (arg6_r0 : BitVec 32) : Fin 1 → Nat :=
  let c2_i32_114_r0 : BitVec 32 := 2#32
  let v166_r0 : BitVec 32 := Scalar.remui arg6_r0 c2_i32_114_r0
  ![v166_r0.toNat]
def k0_cond2 (k0_t1 : Fin k0_t1_loop.trips) (arg9_r0 : BitVec 32) : BitVec 1 :=
  let c0_i32_56_r0 : BitVec 32 := 0#32
  let v56_r0 : BitVec 32 := Scalar.addi arg9_r0 c0_i32_56_r0
  let true_58_r0 : BitVec 1 := 1#1
  let c1_i32_57_r0 : BitVec 32 := 1#32
  let v57_r0 : BitVec 32 := Scalar.subi arg9_r0 c1_i32_57_r0
  let v58_r0 : BitVec 32 := Scalar.select true_58_r0 v57_r0 arg9_r0
  let c_m1_i32_59_r0 : BitVec 32 := 4294967295#32
  let v59_r0 : BitVec 1 := Scalar.cmpi .eq v58_r0 c_m1_i32_59_r0
  let c9_i32_60_r0 : BitVec 32 := 9#32
  let v60_r0 : BitVec 32 := Scalar.select v59_r0 c9_i32_60_r0 v58_r0
  let c0_i32_61_r0 : BitVec 32 := 0#32
  let v61_r0 : BitVec 32 := Scalar.addi v60_r0 c0_i32_61_r0
  let v86_r0 : BitVec 1 := Scalar.cmpi .ne v56_r0 v61_r0
  let c0_i32_26_r0 : BitVec 32 := 0#32
  let c1_i32_28_r0 : BitVec 32 := 1#32
  let arg4_r0 : BitVec 32 := Scf.iv c0_i32_26_r0 c1_i32_28_r0 k0_t1
  let c0_i32_54_r0 : BitVec 32 := 0#32
  let v54_r0 : BitVec 1 := Scalar.cmpi .eq arg4_r0 c0_i32_54_r0
  let v87_r0 : BitVec 1 := Scalar.ori v86_r0 v54_r0
  let c0_i32_80_r0 : BitVec 32 := 0#32
  let v88_r0 : BitVec 1 := Scalar.cmpi .sge arg4_r0 c0_i32_80_r0
  let v89_r0 : BitVec 1 := Scalar.andi v87_r0 v88_r0
  let v90_r0 : BitVec 32 := Scalar.extui v89_r0
  let c0_i32_81_r0 : BitVec 32 := 0#32
  let v91_r0 : BitVec 1 := Scalar.cmpi .ne v90_r0 c0_i32_81_r0
  v91_r0

def k0_off7 (arg6_r0 : BitVec 32) : Fin 3 → Nat :=
  let c2_i32_114_r0 : BitVec 32 := 2#32
  let v166_r0 : BitVec 32 := Scalar.remui arg6_r0 c2_i32_114_r0
  let c0_i32_115_r0 : BitVec 32 := 0#32
  let c0_i32_116_r0 : BitVec 32 := 0#32
  ![v166_r0.toNat, 0, 0]
def k0_off8 (arg9_r0 : BitVec 32) : Fin 2 → Nat :=
  let c1000_i32_113_r0 : BitVec 32 := 1000#32
  let c0_i32_56_r0 : BitVec 32 := 0#32
  let v56_r0 : BitVec 32 := Scalar.addi arg9_r0 c0_i32_56_r0
  let v165_r0 : BitVec 32 := Scalar.muli c1000_i32_113_r0 v56_r0
  let c0_i32_117_r0 : BitVec 32 := 0#32
  ![v165_r0.toNat, 0]
def k0_off9 (arg6_r0 : BitVec 32) : Fin 3 → Nat :=
  let c2_i32_84_r0 : BitVec 32 := 2#32
  let v98_r0 : BitVec 32 := Scalar.remui arg6_r0 c2_i32_84_r0
  let v100_r0 : Index := Scalar.indexCast v98_r0
  let c0_86_r0 : Index := 0#32
  let c0_87_r0 : Index := 0#32
  ![v100_r0.toNat, 0, 0]

def k0_chk2 (arg6_r0 : BitVec 32) : Prop :=
  (∀ a, (k0_off9 arg6_r0) a + S1x1000x128.size a ≤ S2x1000x128.size a)
theorem k0_off9_inb : ∀ (arg6_r0 : BitVec 32) (k0_hw2 : k0_chk2 arg6_r0), ∀ a, (k0_off9 arg6_r0) a + S1x1000x128.size a ≤ S2x1000x128.size a := fun arg6_r0 k0_hw2 => k0_hw2

def k0_off10 (arg7_r0 : BitVec 32) : Fin 3 → Nat :=
  let c2_i32_85_r0 : BitVec 32 := 2#32
  let v99_r0 : BitVec 32 := Scalar.remui arg7_r0 c2_i32_85_r0
  let v127_r0 : Index := Scalar.indexCast v99_r0
  let c0_95_r0 : Index := 0#32
  let c0_96_r0 : Index := 0#32
  ![v127_r0.toNat, 0, 0]

def k0_chk3 (arg7_r0 : BitVec 32) : Prop :=
  (∀ a, (k0_off10 arg7_r0) a + S1x1000x40.size a ≤ S2x1000x40.size a)
theorem k0_off10_inb : ∀ (arg7_r0 : BitVec 32) (k0_hw3 : k0_chk3 arg7_r0), ∀ a, (k0_off10 arg7_r0) a + S1x1000x40.size a ≤ S2x1000x40.size a := fun arg7_r0 k0_hw3 => k0_hw3

def k0_off11 (arg7_r0 : BitVec 32) : Fin 1 → Nat :=
  let c2_i32_113_r0 : BitVec 32 := 2#32
  let v165_r0 : BitVec 32 := Scalar.remui arg7_r0 c2_i32_113_r0
  ![v165_r0.toNat]
def k0_cond5 (k0_t1 : Fin k0_t1_loop.trips) (arg9_r0 : BitVec 32) : BitVec 1 :=
  let c0_i32_56_r0 : BitVec 32 := 0#32
  let v56_r0 : BitVec 32 := Scalar.addi arg9_r0 c0_i32_56_r0
  let true_63_r0 : BitVec 1 := 1#1
  let c1_i32_62_r0 : BitVec 32 := 1#32
  let v62_r0 : BitVec 32 := Scalar.addi arg9_r0 c1_i32_62_r0
  let v63_r0 : BitVec 32 := Scalar.select true_63_r0 v62_r0 arg9_r0
  let c10_i32_64_r0 : BitVec 32 := 10#32
  let v64_r0 : BitVec 1 := Scalar.cmpi .eq v63_r0 c10_i32_64_r0
  let c0_i32_65_r0 : BitVec 32 := 0#32
  let v65_r0 : BitVec 32 := Scalar.select v64_r0 c0_i32_65_r0 v63_r0
  let c0_i32_66_r0 : BitVec 32 := 0#32
  let v66_r0 : BitVec 32 := Scalar.addi v65_r0 c0_i32_66_r0
  let v136_r0 : BitVec 1 := Scalar.cmpi .ne v56_r0 v66_r0
  let c0_i32_26_r0 : BitVec 32 := 0#32
  let c1_i32_28_r0 : BitVec 32 := 1#32
  let arg4_r0 : BitVec 32 := Scf.iv c0_i32_26_r0 c1_i32_28_r0 k0_t1
  let c9_i32_55_r0 : BitVec 32 := 9#32
  let v55_r0 : BitVec 1 := Scalar.cmpi .eq arg4_r0 c9_i32_55_r0
  let v137_r0 : BitVec 1 := Scalar.ori v136_r0 v55_r0
  let v138_r0 : BitVec 32 := Scalar.extui v137_r0
  let c0_i32_98_r0 : BitVec 32 := 0#32
  let v139_r0 : BitVec 1 := Scalar.cmpi .ne v138_r0 c0_i32_98_r0
  v139_r0

def k0_off12 (arg9_r0 : BitVec 32) : Fin 2 → Nat :=
  let c1000_i32_114_r0 : BitVec 32 := 1000#32
  let c0_i32_56_r0 : BitVec 32 := 0#32
  let v56_r0 : BitVec 32 := Scalar.addi arg9_r0 c0_i32_56_r0
  let v166_r0 : BitVec 32 := Scalar.muli c1000_i32_114_r0 v56_r0
  let c0_i32_115_r0 : BitVec 32 := 0#32
  ![v166_r0.toNat, 0]
def k0_off13 (arg7_r0 : BitVec 32) : Fin 3 → Nat :=
  let c2_i32_113_r0 : BitVec 32 := 2#32
  let v165_r0 : BitVec 32 := Scalar.remui arg7_r0 c2_i32_113_r0
  let c0_i32_116_r0 : BitVec 32 := 0#32
  let c0_i32_117_r0 : BitVec 32 := 0#32
  ![v165_r0.toNat, 0, 0]
def k0_off14 (arg8_r0 : BitVec 32) : Fin 1 → Nat :=
  let c2_i32_113_r0 : BitVec 32 := 2#32
  let v165_r0 : BitVec 32 := Scalar.remui arg8_r0 c2_i32_113_r0
  ![v165_r0.toNat]
def k0_cond7 (k0_t1 : Fin k0_t1_loop.trips) (arg9_r0 : BitVec 32) : BitVec 1 :=
  let c0_i32_56_r0 : BitVec 32 := 0#32
  let v56_r0 : BitVec 32 := Scalar.addi arg9_r0 c0_i32_56_r0
  let true_58_r0 : BitVec 1 := 1#1
  let c1_i32_57_r0 : BitVec 32 := 1#32
  let v57_r0 : BitVec 32 := Scalar.subi arg9_r0 c1_i32_57_r0
  let v58_r0 : BitVec 32 := Scalar.select true_58_r0 v57_r0 arg9_r0
  let c_m1_i32_59_r0 : BitVec 32 := 4294967295#32
  let v59_r0 : BitVec 1 := Scalar.cmpi .eq v58_r0 c_m1_i32_59_r0
  let c9_i32_60_r0 : BitVec 32 := 9#32
  let v60_r0 : BitVec 32 := Scalar.select v59_r0 c9_i32_60_r0 v58_r0
  let c0_i32_61_r0 : BitVec 32 := 0#32
  let v61_r0 : BitVec 32 := Scalar.addi v60_r0 c0_i32_61_r0
  let v149_r0 : BitVec 1 := Scalar.cmpi .ne v56_r0 v61_r0
  let c0_i32_26_r0 : BitVec 32 := 0#32
  let c1_i32_28_r0 : BitVec 32 := 1#32
  let arg4_r0 : BitVec 32 := Scf.iv c0_i32_26_r0 c1_i32_28_r0 k0_t1
  let c0_i32_54_r0 : BitVec 32 := 0#32
  let v54_r0 : BitVec 1 := Scalar.cmpi .eq arg4_r0 c0_i32_54_r0
  let true_104_r0 : BitVec 1 := 1#1
  let v150_r0 : BitVec 1 := Scalar.xori v54_r0 true_104_r0
  let v151_r0 : BitVec 1 := Scalar.andi v149_r0 v150_r0
  let v152_r0 : BitVec 32 := Scalar.extui v151_r0
  let c0_i32_105_r0 : BitVec 32 := 0#32
  let v153_r0 : BitVec 1 := Scalar.cmpi .ne v152_r0 c0_i32_105_r0
  v153_r0

def k0_off15 (arg9_r0 : BitVec 32) : Fin 2 → Nat :=
  let c1000_i32_114_r0 : BitVec 32 := 1000#32
  let true_58_r0 : BitVec 1 := 1#1
  let c1_i32_57_r0 : BitVec 32 := 1#32
  let v57_r0 : BitVec 32 := Scalar.subi arg9_r0 c1_i32_57_r0
  let v58_r0 : BitVec 32 := Scalar.select true_58_r0 v57_r0 arg9_r0
  let c_m1_i32_59_r0 : BitVec 32 := 4294967295#32
  let v59_r0 : BitVec 1 := Scalar.cmpi .eq v58_r0 c_m1_i32_59_r0
  let c9_i32_60_r0 : BitVec 32 := 9#32
  let v60_r0 : BitVec 32 := Scalar.select v59_r0 c9_i32_60_r0 v58_r0
  let c0_i32_61_r0 : BitVec 32 := 0#32
  let v61_r0 : BitVec 32 := Scalar.addi v60_r0 c0_i32_61_r0
  let v166_r0 : BitVec 32 := Scalar.muli c1000_i32_114_r0 v61_r0
  let c0_i32_115_r0 : BitVec 32 := 0#32
  ![v166_r0.toNat, 0]
def k0_off16 (arg8_r0 : BitVec 32) : Fin 3 → Nat :=
  let c2_i32_113_r0 : BitVec 32 := 2#32
  let v165_r0 : BitVec 32 := Scalar.remui arg8_r0 c2_i32_113_r0
  let c0_i32_116_r0 : BitVec 32 := 0#32
  let c0_i32_117_r0 : BitVec 32 := 0#32
  ![v165_r0.toNat, 0, 0]

def k0_chk1 (k0_t1 : Fin k0_t1_loop.trips) (arg5_r0 : BitVec 32) (arg6_r0 : BitVec 32) (arg7_r0 : BitVec 32) (arg8_r0 : BitVec 32) (arg9_r0 : BitVec 32) : Prop :=
  (∀ (k0_h1 : k0_cond1 k0_t1 arg9_r0 = 1#1), ∀ a, (k0_off3 arg5_r0) a + S1.size a ≤ S2.size a) ∧
  (∀ (k0_h1 : k0_cond1 k0_t1 arg9_r0 = 1#1), ∀ a, (k0_off4 arg5_r0) a + S1x1000x128.size a ≤ S2x1000x128.size a) ∧
  (∀ (k0_h1 : k0_cond1 k0_t1 arg9_r0 = 1#1), ∀ a, (k0_off5 arg9_r0) a + S1000x128.size a ≤ S10000x128.size a) ∧
  (∀ (k0_h2 : k0_cond2 k0_t1 arg9_r0 = 1#1), ∀ a, (k0_off6 arg6_r0) a + S1.size a ≤ S2.size a) ∧
  (∀ (k0_h2 : k0_cond2 k0_t1 arg9_r0 = 1#1), ∀ a, (k0_off7 arg6_r0) a + S1x1000x128.size a ≤ S2x1000x128.size a) ∧
  (∀ (k0_h2 : k0_cond2 k0_t1 arg9_r0 = 1#1), ∀ a, (k0_off8 arg9_r0) a + S1000x128.size a ≤ S10000x128.size a) ∧
  (∀ (k0_h5 : k0_cond5 k0_t1 arg9_r0 = 1#1), ∀ a, (k0_off11 arg7_r0) a + S1.size a ≤ S2.size a) ∧
  (∀ (k0_h5 : k0_cond5 k0_t1 arg9_r0 = 1#1), ∀ a, (k0_off12 arg9_r0) a + S1000x40.size a ≤ S10000x40.size a) ∧
  (∀ (k0_h5 : k0_cond5 k0_t1 arg9_r0 = 1#1), ∀ a, (k0_off13 arg7_r0) a + S1x1000x40.size a ≤ S2x1000x40.size a) ∧
  (∀ (k0_h7 : k0_cond7 k0_t1 arg9_r0 = 1#1), ∀ a, (k0_off14 arg8_r0) a + S1.size a ≤ S2.size a) ∧
  (∀ (k0_h7 : k0_cond7 k0_t1 arg9_r0 = 1#1), ∀ a, (k0_off15 arg9_r0) a + S1000x40.size a ≤ S10000x40.size a) ∧
  (∀ (k0_h7 : k0_cond7 k0_t1 arg9_r0 = 1#1), ∀ a, (k0_off16 arg8_r0) a + S1x1000x40.size a ≤ S2x1000x40.size a)
theorem k0_off3_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h1 : k0_cond1 k0_t1 arg9_r0 = 1#1), ∀ a, (k0_off3 arg5_r0) a + S1.size a ≤ S2.size a := fun k0_t1 arg5_r0 arg6_r0 arg7_r0 arg8_r0 arg9_r0 k0_hw1 k0_h1 => k0_hw1.1 k0_h1
theorem k0_off4_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h1 : k0_cond1 k0_t1 arg9_r0 = 1#1), ∀ a, (k0_off4 arg5_r0) a + S1x1000x128.size a ≤ S2x1000x128.size a := fun k0_t1 arg5_r0 arg6_r0 arg7_r0 arg8_r0 arg9_r0 k0_hw1 k0_h1 => k0_hw1.2.1 k0_h1
theorem k0_off5_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h1 : k0_cond1 k0_t1 arg9_r0 = 1#1), ∀ a, (k0_off5 arg9_r0) a + S1000x128.size a ≤ S10000x128.size a := fun k0_t1 arg5_r0 arg6_r0 arg7_r0 arg8_r0 arg9_r0 k0_hw1 k0_h1 => k0_hw1.2.2.1 k0_h1
theorem k0_off6_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h2 : k0_cond2 k0_t1 arg9_r0 = 1#1), ∀ a, (k0_off6 arg6_r0) a + S1.size a ≤ S2.size a := fun k0_t1 arg5_r0 arg6_r0 arg7_r0 arg8_r0 arg9_r0 k0_hw1 k0_h2 => k0_hw1.2.2.2.1 k0_h2
theorem k0_off7_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h2 : k0_cond2 k0_t1 arg9_r0 = 1#1), ∀ a, (k0_off7 arg6_r0) a + S1x1000x128.size a ≤ S2x1000x128.size a := fun k0_t1 arg5_r0 arg6_r0 arg7_r0 arg8_r0 arg9_r0 k0_hw1 k0_h2 => k0_hw1.2.2.2.2.1 k0_h2
theorem k0_off8_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h2 : k0_cond2 k0_t1 arg9_r0 = 1#1), ∀ a, (k0_off8 arg9_r0) a + S1000x128.size a ≤ S10000x128.size a := fun k0_t1 arg5_r0 arg6_r0 arg7_r0 arg8_r0 arg9_r0 k0_hw1 k0_h2 => k0_hw1.2.2.2.2.2.1 k0_h2
theorem k0_off11_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h5 : k0_cond5 k0_t1 arg9_r0 = 1#1), ∀ a, (k0_off11 arg7_r0) a + S1.size a ≤ S2.size a := fun k0_t1 arg5_r0 arg6_r0 arg7_r0 arg8_r0 arg9_r0 k0_hw1 k0_h5 => k0_hw1.2.2.2.2.2.2.1 k0_h5
theorem k0_off12_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h5 : k0_cond5 k0_t1 arg9_r0 = 1#1), ∀ a, (k0_off12 arg9_r0) a + S1000x40.size a ≤ S10000x40.size a := fun k0_t1 arg5_r0 arg6_r0 arg7_r0 arg8_r0 arg9_r0 k0_hw1 k0_h5 => k0_hw1.2.2.2.2.2.2.2.1 k0_h5
theorem k0_off13_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h5 : k0_cond5 k0_t1 arg9_r0 = 1#1), ∀ a, (k0_off13 arg7_r0) a + S1x1000x40.size a ≤ S2x1000x40.size a := fun k0_t1 arg5_r0 arg6_r0 arg7_r0 arg8_r0 arg9_r0 k0_hw1 k0_h5 => k0_hw1.2.2.2.2.2.2.2.2.1 k0_h5
theorem k0_off14_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h7 : k0_cond7 k0_t1 arg9_r0 = 1#1), ∀ a, (k0_off14 arg8_r0) a + S1.size a ≤ S2.size a := fun k0_t1 arg5_r0 arg6_r0 arg7_r0 arg8_r0 arg9_r0 k0_hw1 k0_h7 => k0_hw1.2.2.2.2.2.2.2.2.2.1 k0_h7
theorem k0_off15_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h7 : k0_cond7 k0_t1 arg9_r0 = 1#1), ∀ a, (k0_off15 arg9_r0) a + S1000x40.size a ≤ S10000x40.size a := fun k0_t1 arg5_r0 arg6_r0 arg7_r0 arg8_r0 arg9_r0 k0_hw1 k0_h7 => k0_hw1.2.2.2.2.2.2.2.2.2.2.1 k0_h7
theorem k0_off16_inb : ∀ (k0_t1 : Fin k0_t1_loop.trips) (arg5_r0 : BitVec 32) (arg6_r0 : BitVec 32) (arg7_r0 : BitVec 32) (arg8_r0 : BitVec 32) (arg9_r0 : BitVec 32) (k0_hw1 : k0_chk1 k0_t1 arg5_r0 arg6_r0 arg7_r0 arg8_r0 arg9_r0), ∀ (k0_h7 : k0_cond7 k0_t1 arg9_r0 = 1#1), ∀ a, (k0_off16 arg8_r0) a + S1x1000x40.size a ≤ S2x1000x40.size a := fun k0_t1 arg5_r0 arg6_r0 arg7_r0 arg8_r0 arg9_r0 k0_hw1 k0_h7 => k0_hw1.2.2.2.2.2.2.2.2.2.2.2 k0_h7

def k0_off17 (v26_3_r0 : BitVec 32) : Fin 1 → Nat :=
  let c2_i32_50_r0 : BitVec 32 := 2#32
  let v47_r0 : BitVec 32 := Scalar.remui v26_3_r0 c2_i32_50_r0
  ![v47_r0.toNat]

def k0_off18 (v26_4_r0 : BitVec 32) : Fin 2 → Nat :=
  let c1000_i32_r0 : BitVec 32 := 1000#32
  let true_31_r0 : BitVec 1 := 1#1
  let c1_i32_30_r0 : BitVec 32 := 1#32
  let v27_r0 : BitVec 32 := Scalar.subi v26_4_r0 c1_i32_30_r0
  let v28_r0 : BitVec 32 := Scalar.select true_31_r0 v27_r0 v26_4_r0
  let c_m1_i32_32_r0 : BitVec 32 := 4294967295#32
  let v29_r0 : BitVec 1 := Scalar.cmpi .eq v28_r0 c_m1_i32_32_r0
  let c9_i32_33_r0 : BitVec 32 := 9#32
  let v30_r0 : BitVec 32 := Scalar.select v29_r0 c9_i32_33_r0 v28_r0
  let c0_i32_34_r0 : BitVec 32 := 0#32
  let v31_r0 : BitVec 32 := Scalar.addi v30_r0 c0_i32_34_r0
  let v48_r0 : BitVec 32 := Scalar.muli c1000_i32_r0 v31_r0
  let c0_i32_51_r0 : BitVec 32 := 0#32
  ![v48_r0.toNat, 0]

def k0_chk5 (v26_4_r0 : BitVec 32) : Prop :=
  (∀ a, (k0_off18 v26_4_r0) a + S1000x40.size a ≤ S10000x40.size a)
theorem k0_off18_inb : ∀ (v26_4_r0 : BitVec 32) (k0_hw5 : k0_chk5 v26_4_r0), ∀ a, (k0_off18 v26_4_r0) a + S1000x40.size a ≤ S10000x40.size a := fun v26_4_r0 k0_hw5 => k0_hw5

def k0_off19 (v26_3_r0 : BitVec 32) : Fin 3 → Nat :=
  let c2_i32_50_r0 : BitVec 32 := 2#32
  let v47_r0 : BitVec 32 := Scalar.remui v26_3_r0 c2_i32_50_r0
  let c0_i32_52_r0 : BitVec 32 := 0#32
  let c0_i32_53_r0 : BitVec 32 := 0#32
  ![v47_r0.toNat, 0, 0]

def k0_chk4 (v26_3_r0 : BitVec 32) : Prop :=
  (∀ a, (k0_off17 v26_3_r0) a + S1.size a ≤ S2.size a) ∧
  (∀ a, (k0_off19 v26_3_r0) a + S1x1000x40.size a ≤ S2x1000x40.size a)
theorem k0_off17_inb : ∀ (v26_3_r0 : BitVec 32) (k0_hw4 : k0_chk4 v26_3_r0), ∀ a, (k0_off17 v26_3_r0) a + S1.size a ≤ S2.size a := fun v26_3_r0 k0_hw4 => k0_hw4.1
theorem k0_off19_inb : ∀ (v26_3_r0 : BitVec 32) (k0_hw4 : k0_chk4 v26_3_r0), ∀ a, (k0_off19 v26_3_r0) a + S1x1000x40.size a ≤ S2x1000x40.size a := fun v26_3_r0 k0_hw4 => k0_hw4.2

abbrev stage0_0 : Fin 1 → Memref sig .tc .vmem S40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S40x128 : Shape := ⟨2, ![40, 128]⟩
abbrev S40 : Shape := ⟨1, ![40]⟩
abbrev S_ : Shape := ⟨0, ![]⟩
abbrev S10000 : Shape := ⟨1, ![10000]⟩
abbrev S10000x1 : Shape := ⟨2, ![10000, 1]⟩
abbrev S128x40 : Shape := ⟨2, ![128, 40]⟩
abbrev S10000x40 : Shape := ⟨2, ![10000, 40]⟩
abbrev S1x40 : Shape := ⟨2, ![1, 40]⟩

abbrev nBuf : Space → Nat
  | .hbm => 35
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S40x128, .f32⟩
  | .hbm, ⟨3, _⟩ => ⟨S40, .f32⟩
  | .hbm, ⟨4, _⟩ => ⟨S10000x128, .f32⟩
  | .hbm, ⟨5, _⟩ => ⟨S_, .f32⟩
  | .hbm, ⟨6, _⟩ => ⟨S10000, .f32⟩
  | .hbm, ⟨7, _⟩ => ⟨S10000x1, .f32⟩
  | .hbm, ⟨8, _⟩ => ⟨S10000x1, .f32⟩
  | .hbm, ⟨9, _⟩ => ⟨S_, .f32⟩
  | .hbm, ⟨10, _⟩ => ⟨S10000x1, .f32⟩
  | .hbm, ⟨11, _⟩ => ⟨S10000x1, .f32⟩
  | .hbm, ⟨12, _⟩ => ⟨S_, .f32⟩
  | .hbm, ⟨13, _⟩ => ⟨S10000x1, .f32⟩
  | .hbm, ⟨14, _⟩ => ⟨S10000x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S10000x1, .f32⟩
  | .hbm, ⟨19, _⟩ => ⟨S10000x1, .f32⟩
  | .hbm, ⟨20, _⟩ => ⟨S_, .f32⟩
  | .hbm, ⟨21, _⟩ => ⟨S10000x1, .f32⟩
  | .hbm, ⟨22, _⟩ => ⟨S10000x1, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x1, .f32⟩
  | .hbm, ⟨28, _⟩ => ⟨S10000x128, .f32⟩
  | .hbm, ⟨29, _⟩ => ⟨S10000x128, .f32⟩
  | .hbm, ⟨30, _⟩ => ⟨S128x40, .f32⟩
  | .hbm, ⟨31, _⟩ => ⟨S10000x40, .f32⟩
  | .hbm, ⟨32, _⟩ => ⟨S1x40, .f32⟩
  | .hbm, ⟨33, _⟩ => ⟨S10000x40, .f32⟩
  | .hbm, ⟨34, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_v6 : Ref sig .tc := ⟨.hbm, 23, rfl⟩
abbrev main_cst_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== Proof.Names.lean ====
/-
  Names for the pieces that the kernel moves, and the closed forms of its index words.

  The kernel walks ten blocks of a thousand rows. Block `b` of the input `x` comes into one of two slots of a
  scratch buffer, and block `b` of the result leaves from one of two slots of a second scratch buffer; each slot
  has a DMA semaphore. `xblk`, `oblk` name the blocks, `xslot`, `oslot` the slots, `csi`, `cso` the semaphores.
  The body computes its slots and blocks from five words that its loop carries. Before trip `k` they are
  `w5 k … w9 k`; the section "closed forms" evaluates every offset and condition of a trip at these words.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic

@[expose] public section

noncomputable section

namespace Cert.Proof.Pipe

open Cert.KernelIdeal Cert.KernelIdeal.Gen
open Idealize.ShloMosaic
open Idealize.ShloMosaic.TcCoe Idealize.ShloMosaic.Tactic

variable {F : FTy → Type} [FloatOps F]

/-! ## Blocks, slots and semaphores -/

/-- The input `x`, the result, and the two scratch buffers, each whole. -/
abbrev xM : Memref sig .tc .hbm S10000x128 .f32 := Memref.whole main_arg0
abbrev oM : Memref sig .tc .hbm S10000x40 .f32 := Memref.whole main_v0
abbrev xbM : Memref sig .tc .vmem S2x1000x128 .f32 := Memref.whole cc0_scoped0
abbrev obM : Memref sig .tc .vmem S2x1000x40 .f32 := Memref.whole cc0_scoped2

abbrev rowOff (b : Fin 10) : Fin 2 → Nat := ![1000 * b.val, 0]
abbrev slotOff (s : Fin 2) : Fin 3 → Nat := ![s.val, 0, 0]
abbrev semOff (s : Fin 2) : Fin 1 → Nat := ![s.val]

theorem xrow_inb (b : Fin 10) : ∀ a, rowOff b a + S1000x128.size a ≤ S10000x128.size a := by
  have := b.isLt; intro a; fin_cases a
  · show 1000 * b.val + 1000 ≤ 10000; omega
  · show 0 + 128 ≤ 128; omega
theorem orow_inb (b : Fin 10) : ∀ a, rowOff b a + S1000x40.size a ≤ S10000x40.size a := by
  have := b.isLt; intro a; fin_cases a
  · show 1000 * b.val + 1000 ≤ 10000; omega
  · show 0 + 40 ≤ 40; omega
theorem xslot_inb (s : Fin 2) : ∀ a, slotOff s a + S1x1000x128.size a ≤ S2x1000x128.size a := by
  have := s.isLt; intro a; fin_cases a
  · show s.val + 1 ≤ 2; omega
  · show 0 + 1000 ≤ 1000; omega
  · show 0 + 128 ≤ 128; omega
theorem oslot_inb (s : Fin 2) : ∀ a, slotOff s a + S1x1000x40.size a ≤ S2x1000x40.size a := by
  have := s.isLt; intro a; fin_cases a
  · show s.val + 1 ≤ 2; omega
  · show 0 + 1000 ≤ 1000; omega
  · show 0 + 40 ≤ 40; omega
theorem sem_inb (s : Fin 2) : ∀ a, semOff s a + S1.size a ≤ S2.size a := by
  have := s.isLt; intro a; fin_cases a; show s.val + 1 ≤ 2; omega

/-- Block `b` of `x`: rows `1000 b` to `1000 b + 999`. -/
def xblk (b : Fin 10) : Memref sig .tc .hbm S1000x128 .f32 :=
  xM.slice (Rect.unit (s := S10000x128) (rowOff b) S1000x128.size (xrow_inb b)) (fun _ => rfl)
/-- Block `b` of the result. -/
def oblk (b : Fin 10) : Memref sig .tc .hbm S1000x40 .f32 :=
  oM.slice (Rect.unit (s := S10000x40) (rowOff b) S1000x40.size (orow_inb b)) (fun _ => rfl)
/-- Slot `s` of the input's scratch buffer. -/
def xslot (s : Fin 2) : Memref sig .tc .vmem S1000x128 .f32 :=
  (xbM.slice (Rect.unit (s := S2x1000x128) (slotOff s) S1x1000x128.size (xslot_inb s)) (fun _ => rfl)).squeeze S1000x128 squeezes_S1x1000x128_S1000x128
/-- Slot `s` of the result's scratch buffer. -/
def oslot (s : Fin 2) : Memref sig .tc .vmem S1000x40 .f32 :=
  (obM.slice (Rect.unit (s := S2x1000x40) (slotOff s) S1x1000x40.size (oslot_inb s)) (fun _ => rfl)).squeeze S1000x40 squeezes_S1x1000x40_S1000x40
/-- The input slots' semaphores, and the result slots'. -/
def csi (s : Fin 2) : DmaSems sig S_ := (cc0_scoped1.slice (Rect.unit (s := S2) (semOff s) S1.size (sem_inb s))).squeeze S_ squeezes_S1_S_
def cso (s : Fin 2) : DmaSems sig S_ := (cc0_scoped3.slice (Rect.unit (s := S2) (semOff s) S1.size (sem_inb s))).squeeze S_ squeezes_S1_S_

instance (s : Fin 2) : ClosedOff (slotOff s) := ⟨slotOff s, rfl⟩
instance (b : Fin 10) : ClosedOff (rowOff b) := ⟨rowOff b, rfl⟩

/-! ## The five carried words before trip `k` -/

/-- Blocks issued, blocks waited for, results issued, results waited for, and the block number (which wraps). -/
def w5 (k : ℕ) : BitVec 32 := BitVec.ofNat 32 (min (k + 1) 10)
def w6 (k : ℕ) : BitVec 32 := BitVec.ofNat 32 k
def w7 (k : ℕ) : BitVec 32 := BitVec.ofNat 32 k
def w8 (k : ℕ) : BitVec 32 := BitVec.ofNat 32 (k - 1)
def w9 (k : ℕ) : BitVec 32 := BitVec.ofNat 32 (k % 10)
/-- All five together. -/
abbrev acc (k : ℕ) : BitVec 32 × BitVec 32 × BitVec 32 × BitVec 32 × BitVec 32 := (w5 k, w6 k, w7 k, w8 k, w9 k)

theorem trips_eq : k0_t1_loop.trips = 10 := by decide

/-! ## Closed forms -/

section Closed
variable (k : Fin k0_t1_loop.trips)

theorem cond1_iff : ∀ k : Fin k0_t1_loop.trips, (k0_cond1 k (w9 k.val) = 1#1) ↔ k.val < 9 := by decide
theorem cond2_true : ∀ k : Fin k0_t1_loop.trips, k0_cond2 k (w9 k.val) = 1#1 := by decide
theorem cond5_true : ∀ k : Fin k0_t1_loop.trips, k0_cond5 k (w9 k.val) = 1#1 := by decide
theorem cond7_iff : ∀ k : Fin k0_t1_loop.trips, (k0_cond7 k (w9 k.val) = 1#1) ↔ 0 < k.val := by decide

theorem off3_eq : ∀ k : Fin k0_t1_loop.trips, k.val < 9 → k0_off3 (w5 k.val) = semOff (Ring.sl 2 (k.val + 1)) := by decide
theorem off4_eq : ∀ k : Fin k0_t1_loop.trips, k.val < 9 → k0_off4 (w5 k.val) = slotOff (Ring.sl 2 (k.val + 1)) := by decide
theorem off5_eq : ∀ k : Fin k0_t1_loop.trips, k.val < 9 → k0_off5 (w9 k.val) = rowOff (Ring.bk 10 (k.val + 1)) := by decide
theorem off6_eq : ∀ k : Fin k0_t1_loop.trips, k0_off6 (w6 k.val) = semOff (Ring.sl 2 k.val) := by decide
theorem off7_eq : ∀ k : Fin k0_t1_loop.trips, k0_off7 (w6 k.val) = slotOff (Ring.sl 2 k.val) := by decide
theorem off8_eq : ∀ k : Fin k0_t1_loop.trips, k0_off8 (w9 k.val) = rowOff (Ring.bk 10 k.val) := by decide
theorem off9_eq : ∀ k : Fin k0_t1_loop.trips, k0_off9 (w6 k.val) = slotOff (Ring.sl 2 k.val) := by decide
theorem off10_eq : ∀ k : Fin k0_t1_loop.trips, k0_off10 (w7 k.val) = slotOff (Ring.sl 2 k.val) := by decide
theorem off11_eq : ∀ k : Fin k0_t1_loop.trips, k0_off11 (w7 k.val) = semOff (Ring.sl 2 k.val) := by decide
theorem off12_eq : ∀ k : Fin k0_t1_loop.trips, k0_off12 (w9 k.val) = rowOff (Ring.bk 10 k.val) := by decide
theorem off13_eq : ∀ k : Fin k0_t1_loop.trips, k0_off13 (w7 k.val) = slotOff (Ring.sl 2 k.val) := by decide
theorem off14_eq : ∀ k : Fin k0_t1_loop.trips, 0 < k.val → k0_off14 (w8 k.val) = semOff (Ring.sl 2 (k.val + 1)) := by decide
theorem off15_eq : ∀ k : Fin k0_t1_loop.trips, 0 < k.val → k0_off15 (w9 k.val) = rowOff (Ring.bk 10 (k.val - 1)) := by decide
theorem off16_eq : ∀ k : Fin k0_t1_loop.trips, 0 < k.val → k0_off16 (w8 k.val) = slotOff (Ring.sl 2 (k.val + 1)) := by decide

/-- After the last trip: the last block's result is in slot 1, and the block number has wrapped to zero. -/
theorem off17_eq : k0_off17 (w8 10) = semOff 1 := by decide
theorem off18_eq : k0_off18 (w9 10) = rowOff 9 := by decide
theorem off19_eq : k0_off19 (w8 10) = slotOff 1 := by decide

instance (k : Fin k0_t1_loop.trips) : ClosedOff (k0_off9 (w6 k.val)) := ⟨slotOff (Ring.sl 2 k.val), off9_eq k⟩
instance (k : Fin k0_t1_loop.trips) : ClosedOff (k0_off10 (w7 k.val)) := ⟨slotOff (Ring.sl 2 k.val), off10_eq k⟩

/-! The checks that the body states before it uses its offsets. -/

theorem chk2 (k : Fin k0_t1_loop.trips) : k0_chk2 (w6 k.val) := by
  unfold k0_chk2; rw [off9_eq]; exact xslot_inb _
theorem chk3 (k : Fin k0_t1_loop.trips) : k0_chk3 (w7 k.val) := by
  unfold k0_chk3; rw [off10_eq]; exact oslot_inb _
theorem chk1 (k : Fin k0_t1_loop.trips) : k0_chk1 k (w5 k.val) (w6 k.val) (w7 k.val) (w8 k.val) (w9 k.val) := by
  unfold k0_chk1
  simp only [cond1_iff, cond7_iff]
  refine ⟨fun h => ?_, fun h => ?_, fun h => ?_, fun _ => ?_, fun _ => ?_, fun _ => ?_, fun _ => ?_, fun _ => ?_,
    fun _ => ?_, fun h => ?_, fun h => ?_, fun h => ?_⟩
  · rw [off3_eq k h]; exact sem_inb _
  · rw [off4_eq k h]; exact xslot_inb _
  · rw [off5_eq k h]; exact xrow_inb _
  · rw [off6_eq]; exact sem_inb _
  · rw [off7_eq]; exact xslot_inb _
  · rw [off8_eq]; exact xrow_inb _
  · rw [off11_eq]; exact sem_inb _
  · rw [off12_eq]; exact orow_inb _
  · rw [off13_eq]; exact oslot_inb _
  · rw [off14_eq k h]; exact sem_inb _
  · rw [off15_eq k h]; exact orow_inb _
  · rw [off16_eq k h]; exact oslot_inb _
theorem chk4 : k0_chk4 (w8 10) := by
  unfold k0_chk4; rw [off17_eq, off19_eq]; exact ⟨sem_inb 1, oslot_inb 1⟩
theorem chk5 : k0_chk5 (w9 10) := by
  unfold k0_chk5; rw [off18_eq]; exact orow_inb 9

end Closed

/-! ## The body's slices are the named pieces -/

section Canon

private theorem csi_congr {off : Fin 1 → Nat} {s : Fin 2} (e : off = semOff s) (hh) :
    (cc0_scoped1.slice (Rect.unit (s := S2) off S1.size hh)).squeeze S_ squeezes_S1_S_ = csi s :=
  congrArg (fun A : DmaSems sig S1 => A.squeeze S_ squeezes_S1_S_) (SemArray.slice_unit_congr _ e _ _)
private theorem cso_congr {off : Fin 1 → Nat} {s : Fin 2} (e : off = semOff s) (hh) :
    (cc0_scoped3.slice (Rect.unit (s := S2) off S1.size hh)).squeeze S_ squeezes_S1_S_ = cso s :=
  congrArg (fun A : DmaSems sig S1 => A.squeeze S_ squeezes_S1_S_) (SemArray.slice_unit_congr _ e _ _)
private theorem xslot_congr {off : Fin 3 → Nat} {s : Fin 2} (e : off = slotOff s) (hh hs) :
    (xbM.slice (Rect.unit (s := S2x1000x128) off S1x1000x128.size hh) hs).squeeze S1000x128 squeezes_S1x1000x128_S1000x128 = xslot s :=
  congrArg (fun M : Memref sig .tc .vmem S1x1000x128 .f32 => M.squeeze S1000x128 squeezes_S1x1000x128_S1000x128) (Memref.slice_unit_congr _ e _ _ _ _)
private theorem oslot_congr {off : Fin 3 → Nat} {s : Fin 2} (e : off = slotOff s) (hh hs) :
    (obM.slice (Rect.unit (s := S2x1000x40) off S1x1000x40.size hh) hs).squeeze S1000x40 squeezes_S1x1000x40_S1000x40 = oslot s :=
  congrArg (fun M : Memref sig .tc .vmem S1x1000x40 .f32 => M.squeeze S1000x40 squeezes_S1x1000x40_S1000x40) (Memref.slice_unit_congr _ e _ _ _ _)
private theorem xblk_congr {off : Fin 2 → Nat} {b : Fin 10} (e : off = rowOff b) (hh hs) :
    xM.slice (Rect.unit (s := S10000x128) off S1000x128.size hh) hs = xblk b := Memref.slice_unit_congr _ e _ _ _ (fun _ => rfl)
private theorem oblk_congr {off : Fin 2 → Nat} {b : Fin 10} (e : off = rowOff b) (hh hs) :
    oM.slice (Rect.unit (s := S10000x40) off S1000x40.size hh) hs = oblk b := Memref.slice_unit_congr _ e _ _ _ (fun _ => rfl)

/-! The prologue's first copy. -/
@[sl_canon] theorem canon_sem0 (hh) : (cc0_scoped1.slice (Rect.unit (s := S2) k0_off1 S1.size hh)).squeeze S_ squeezes_S1_S_ = csi 0 := csi_congr (by decide) _
@[sl_canon] theorem canon_slot0 (hh hs) : (xbM.slice (Rect.unit (s := S2x1000x128) k0_off2 S1x1000x128.size hh) hs).squeeze S1000x128 squeezes_S1x1000x128_S1000x128 = xslot 0 := xslot_congr (by decide) _ _
@[sl_canon] theorem canon_blk0 (hh hs) : xM.slice (Rect.unit (s := S10000x128) ![0, 0] S1000x128.size hh) hs = xblk 0 := xblk_congr (by decide) _ _

/-! A trip: the next block in, this block waited for, this result out, the last result waited for. -/
@[sl_canon] theorem canon3 (k : Fin k0_t1_loop.trips) (h : k.val < 9) (hh) :
    (cc0_scoped1.slice (Rect.unit (s := S2) (k0_off3 (w5 k.val)) S1.size hh)).squeeze S_ squeezes_S1_S_ = csi (Ring.sl 2 (k.val + 1)) := csi_congr (off3_eq k h) _
@[sl_canon] theorem canon4 (k : Fin k0_t1_loop.trips) (h : k.val < 9) (hh hs) :
    (xbM.slice (Rect.unit (s := S2x1000x128) (k0_off4 (w5 k.val)) S1x1000x128.size hh) hs).squeeze S1000x128 squeezes_S1x1000x128_S1000x128 = xslot (Ring.sl 2 (k.val + 1)) := xslot_congr (off4_eq k h) _ _
@[sl_canon] theorem canon5 (k : Fin k0_t1_loop.trips) (h : k.val < 9) (hh hs) :
    xM.slice (Rect.unit (s := S10000x128) (k0_off5 (w9 k.val)) S1000x128.size hh) hs = xblk (Ring.bk 10 (k.val + 1)) := xblk_congr (off5_eq k h) _ _
@[sl_canon] theorem canon6 (k : Fin k0_t1_loop.trips) (hh) :
    (cc0_scoped1.slice (Rect.unit (s := S2) (k0_off6 (w6 k.val)) S1.size hh)).squeeze S_ squeezes_S1_S_ = csi (Ring.sl 2 k.val) := csi_congr (off6_eq k) _
@[sl_canon] theorem canon7 (k : Fin k0_t1_loop.trips) (hh hs) :
    (xbM.slice (Rect.unit (s := S2x1000x128) (k0_off7 (w6 k.val)) S1x1000x128.size hh) hs).squeeze S1000x128 squeezes_S1x1000x128_S1000x128 = xslot (Ring.sl 2 k.val) := xslot_congr (off7_eq k) _ _
@[sl_canon] theorem canon8 (k : Fin k0_t1_loop.trips) (hh hs) :
    xM.slice (Rect.unit (s := S10000x128) (k0_off8 (w9 k.val)) S1000x128.size hh) hs = xblk (Ring.bk 10 k.val) := xblk_congr (off8_eq k) _ _
@[sl_canon] theorem canon11 (k : Fin k0_t1_loop.trips) (hh) :
    (cc0_scoped3.slice (Rect.unit (s := S2) (k0_off11 (w7 k.val)) S1.size hh)).squeeze S_ squeezes_S1_S_ = cso (Ring.sl 2 k.val) := cso_congr (off11_eq k) _
@[sl_canon] theorem canon12 (k : Fin k0_t1_loop.trips) (hh hs) :
    oM.slice (Rect.unit (s := S10000x40) (k0_off12 (w9 k.val)) S1000x40.size hh) hs = oblk (Ring.bk 10 k.val) := oblk_congr (off12_eq k) _ _
@[sl_canon] theorem canon13 (k : Fin k0_t1_loop.trips) (hh hs) :
    (obM.slice (Rect.unit (s := S2x1000x40) (k0_off13 (w7 k.val)) S1x1000x40.size hh) hs).squeeze S1000x40 squeezes_S1x1000x40_S1000x40 = oslot (Ring.sl 2 k.val) := oslot_congr (off13_eq k) _ _
@[sl_canon] theorem canon14 (k : Fin k0_t1_loop.trips) (h : 0 < k.val) (hh) :
    (cc0_scoped3.slice (Rect.unit (s := S2) (k0_off14 (w8 k.val)) S1.size hh)).squeeze S_ squeezes_S1_S_ = cso (Ring.sl 2 (k.val + 1)) := cso_congr (off14_eq k h) _
@[sl_canon] theorem canon15 (k : Fin k0_t1_loop.trips) (h : 0 < k.val) (hh hs) :
    oM.slice (Rect.unit (s := S10000x40) (k0_off15 (w9 k.val)) S1000x40.size hh) hs = oblk (Ring.bk 10 (k.val - 1)) := oblk_congr (off15_eq k h) _ _
@[sl_canon] theorem canon16 (k : Fin k0_t1_loop.trips) (h : 0 < k.val) (hh hs) :
    (obM.slice (Rect.unit (s := S2x1000x40) (k0_off16 (w8 k.val)) S1x1000x40.size hh) hs).squeeze S1000x40 squeezes_S1x1000x40_S1000x40 = oslot (Ring.sl 2 (k.val + 1)) := oslot_congr (off16_eq k h) _ _

/-! After the loop: the last result waited for. -/
@[sl_canon] theorem canon17 (hh) : (cc0_scoped3.slice (Rect.unit (s := S2) (k0_off17 (w8 10)) S1.size hh)).squeeze S_ squeezes_S1_S_ = cso 1 := cso_congr off17_eq _
@[sl_canon] theorem canon18 (hh hs) : oM.slice (Rect.unit (s := S10000x40) (k0_off18 (w9 10)) S1000x40.size hh) hs = oblk 9 := oblk_congr off18_eq _ _
@[sl_canon] theorem canon19 (hh hs) :
    (obM.slice (Rect.unit (s := S2x1000x40) (k0_off19 (w8 10)) S1x1000x40.size hh) hs).squeeze S1000x40 squeezes_S1x1000x40_S1000x40 = oslot 1 := oslot_congr off19_eq _ _

end Canon

end Cert.Proof.Pipe

end
-- ==== Proof.Trip.lean ====
/-
  One trip of the kernel's loop.

  Trip `k` starts the copy of block `k + 1` into the free input slot, waits for block `k`, computes its result,
  stores it in the free result slot and starts that slot's copy out, then waits for the copy out of block `k - 1`.
  The first trip has no copy out to wait for and the last no copy in to start: `firstRun`, `midRun`, `lastRun`.
  `OUT` is the result array as the trips leave it, block by block.
-/
module

public import proofs.«01_k».proof.Proof.Names
public import Idealize.ShloMosaic.Lib.Pipeline.FrameValue
public import Idealize.ShloMosaic.Lib.Pipeline.Value
public import Idealize.ShloMosaic.Lib.ValueIdxCore
public import Idealize.ShloMosaic.Lib.ViewIndex
@[expose] public section
noncomputable section

namespace Cert.Proof.Pipe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

section
variable (c : Dev nD) (XA : Buf (Elt F) (xM.view.loc (c : Thread nD τ)))

abbrev xcellP (s : Fin 2) : sProp 𝕄 := semVal ((c : Thread nD τ), SemLoc.dma (csi s).sem) 0
abbrev ocellP (s : Fin 2) : sProp 𝕄 := semVal ((c : Thread nD τ), SemLoc.dma (cso s).sem) 0
abbrev xslotP (s : Fin 2) (f : Buf (Elt F) ((xslot s).view.loc (c : Thread nD τ))) : sProp 𝕄 :=
  (xslot s).view.loc (c : Thread nD τ) ↦[(xslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev xhomeP (b : Fin 10) : sProp 𝕄 := (xblk b).view.loc (c : Thread nD τ) ↦[(xblk b).view.set]{fullShare} XA
abbrev ohomeP (b : Fin 10) (f : Buf (Elt F) ((oblk b).view.loc (c : Thread nD τ))) : sProp 𝕄 :=
  (oblk b).view.loc (c : Thread nD τ) ↦[(oblk b).view.set]{fullShare} f
abbrev xlanded (s : Fin 2) (b : Fin 10) (f : Buf (Elt F) ((xslot s).view.loc (c : Thread nD τ))) : Buf (Elt F) ((xslot s).view.loc (c : Thread nD τ)) :=
  (xslot s).view.writes (Elt F) f [⟨Rect.whole S1000x128, ReadAs.same.apply ((xblk b).view.read (Elt F) XA)⟩]
abbrev olanded (s : Fin 2) (b : Fin 10) (g : Buf (Elt F) ((oslot s).view.loc (c : Thread nD τ))) (f : Buf (Elt F) ((oblk b).view.loc (c : Thread nD τ))) : Buf (Elt F) ((oblk b).view.loc (c : Thread nD τ)) :=
  (oblk b).view.writes (Elt F) f [⟨Rect.whole S1000x40, ReadAs.same.apply ((oslot s).view.read (Elt F) g)⟩]
abbrev NX : ℕ := 16000
abbrev NO : ℕ := 16000
abbrev xflightP (s : Fin 2) (b : Fin 10) (f : Buf (Elt F) ((xslot s).view.loc (c : Thread nD τ))) : sProp 𝕄 :=
  Transfers.Flight countersEmb (c : Thread nD τ) (SemLoc.dma (csi s).sem) () NX iprop(xslotP c s (xlanded c XA s b f) ∗ xhomeP c XA b)
abbrev oflightP (s : Fin 2) (b : Fin 10) (g : Buf (Elt F) ((oslot s).view.loc (c : Thread nD τ))) (f : Buf (Elt F) ((oblk b).view.loc (c : Thread nD τ))) : sProp 𝕄 :=
  Transfers.Flight countersEmb (c : Thread nD τ) (SemLoc.dma (cso s).sem) () NO iprop(ohomeP c b (olanded c s b g f) ∗ oslotP c s g)

variable (arg1 : Memref sig .tc .vmem S40x128 .f32) (harg1 : arg1.IsWhole)
  (arg2 : Memref sig .tc .vmem S1x40 .f32) (harg2 : arg2.IsWhole) (v0 : Vec F S40x128 .f32) (v2 : FVec F S1x40 .f32)
abbrev tripG (k : Fin k0_t1_loop.trips) : Prog (TpuEff nD τ sig (Elt F) Λ₀ .tc) (BitVec 32 × BitVec 32 × BitVec 32 × BitVec 32 × BitVec 32) :=
  k0_t1_body (F := F) xM (Memref.isWhole_whole _) arg1 harg1 arg2 harg2 oM (Memref.isWhole_whole _)
    xbM (Memref.isWhole_whole _) cc0_scoped1 obM (Memref.isWhole_whole _) cc0_scoped3 v0 v2 0#32 k (acc k.val)

/-! ## What one block computes -/

omit [FloatOps F] in
theorem entails_of_eq {P Q : sProp 𝕄} (e : P = Q) : P ⊢ Q := e ▸ .rfl

theorem castX : S1x1000x128.ShapeCasts S1000x128 := by decide
theorem castX' : S1000x128.ShapeCasts S1x1000x128 := by decide
theorem castO : S1x1000x40.ShapeCasts S1000x40 := by decide

/-- Block `b` of `x` as the body loads it, with the slot's leading axis. -/
abbrev xin (b : Fin 10) : Vec F S1x1000x128 .f32 := shapeCast S1x1000x128 ((xblk b).view.read (Elt F) XA) castX'
/-- Block `b` of the result: what the body stores, without the slot's leading axis. -/
def outBlk (b : Fin 10) : S1000x40.Idx → Elt F .f32 := shapeCast S1000x40 (k0_pay2 v2 (k0_pay1 v0 (xin c XA b))) castO

theorem load_eq (s : Fin 2) (b : Fin 10) (f) {off : Fin 3 → ℕ} (e : off = slotOff s) (h) :
    (xbM.view.readAt (Elt F) (Rect.unit (s := S2x1000x128) off S1x1000x128.size h).toLoadRect (xlanded c XA s b f) : Vec F S1x1000x128 .f32) = xin c XA b := by
  subst e
  have h1 : (xslot s).view.read (Elt F) (xlanded c XA s b f) = (xblk b).view.read (Elt F) XA := View.read_writes_whole _ _ _
  have h2 := Memref.read_squeeze_slice (Val := Elt F) xbM (Rect.unit (s := S2x1000x128) (slotOff s) S1x1000x128.size h) (fun _ => rfl)
    squeezes_S1x1000x128_S1000x128 castX (xlanded c XA s b f)
  unfold xin
  rw [← h1]
  exact (shapeCast_shapeCast _ _ _).symm.trans (congrArg (fun z => shapeCast S1x1000x128 z castX') h2.symm)

theorem store_eq (s : Fin 2) (g : Buf (Elt F) ((oslot s).view.loc (c : Thread nD τ))) {off : Fin 3 → ℕ} (e : off = slotOff s) (h) (w : Vec F S1x1000x40 .f32) :
    (oslot s).view.read (Elt F) (View.write (Elt F) (obM.access (Rect.unit (s := S2x1000x40) off S1x1000x40.size h)) g w Finset.univ)
      = shapeCast S1000x40 w castO := by
  subst e
  have h2 := Memref.read_squeeze_slice (Val := Elt F) obM (Rect.unit (s := S2x1000x40) (slotOff s) S1x1000x40.size h) (fun _ => rfl)
    squeezes_S1x1000x40_S1000x40 castO (View.write (Elt F) (obM.access (Rect.unit (s := S2x1000x40) (slotOff s) S1x1000x40.size h)) g w Finset.univ)
  refine h2.trans (congrArg (fun z => shapeCast S1000x40 z castO) ?_)
  rw [View.readAt_rect]
  exact View.read_write_univ _ _

/-- The result array after the last trip. -/
def OUT : S10000x40.Idx → Elt F .f32 := fun i =>
  outBlk c XA v0 v2 (Ring.bk 10 ((i 0).val / 1000)) (ix2 ⟨(i 0).val % 1000, Nat.mod_lt _ (by decide)⟩ (i 1))

theorem OUT_at (b : Fin 10) (x : S1000x40.Idx) (i : S10000x40.Idx) (e0 : (i 0).val = 1000 * b.val + (x 0).val) (e1 : (i 1).val = (x 1).val) :
    OUT c XA v0 v2 i = outBlk c XA v0 v2 b x := by
  have hb := b.isLt
  have hx0 : (x 0).val < 1000 := (x 0).isLt
  have hb' : Ring.bk 10 ((i 0).val / 1000) = b := by
    apply Fin.ext; rw [Ring.bk_val (by omega)]; omega
  have hx : ix2 (⟨(i 0).val % 1000, Nat.mod_lt _ (by decide)⟩ : Fin 1000) (i 1 : Fin 40) = x := by
    funext a
    match a with
    | ⟨0, _⟩ => exact Fin.ext (show (i 0).val % 1000 = (x 0).val by omega)
    | ⟨1, _⟩ => exact Fin.ext e1
  unfold OUT
  exact congrArg₂ (fun b x => outBlk c XA v0 v2 b x) hb' hx

theorem done_eq (s : Fin 2) (b : Fin 10) (g f) (hg : (oslot s).view.read (Elt F) g = outBlk c XA v0 v2 b) :
    ohomeP c b (olanded c s b g f) = ohomeP c b (OUT c XA v0 v2) := by
  refine pointsTo_congr fun i hi => ?_
  obtain ⟨x, -, hx⟩ := Finset.mem_map.mp hi
  subst hx
  refine View.eq_of_read_eq ?_
  have h1 : (oblk b).view.read (Elt F) (olanded c s b g f) = outBlk c XA v0 v2 b := by
    refine (View.read_writes_whole _ _ _).trans hg
  rw [h1]
  refine Eq.symm ((View.read_apply _ _).trans ((cast_eq rfl _).trans (OUT_at c XA v0 v2 b x _ ?_ ?_)))
  · show 1000 * b.val + 1 * (x 0).val = _; omega
  · show 0 + 1 * (x 1).val = _; omega

/-! ## The state that a trip passes on -/

/-- Block `b` on its way into slot `s`. -/
def inF (s : Fin 2) (b : Fin 10) : sProp 𝕄 := iprop(∃ f, xflightP c XA s b f)
/-- Input slot `s` free, its semaphore at zero. -/
def inFree (s : Fin 2) : sProp 𝕄 := iprop((∃ f, xslotP c s f) ∗ xcellP c s)
/-- Result `b` on its way out of slot `s`. -/
def outF (s : Fin 2) (b : Fin 10) : sProp 𝕄 :=
  iprop(∃ g r, ⌜(oslot s).view.read (Elt F) g = outBlk c XA v0 v2 b⌝ ∗ oflightP c s b g r)
/-- Result slot `s` free, its semaphore at zero. -/
def outFree (s : Fin 2) : sProp 𝕄 := iprop((∃ g, oslotP c s g) ∗ ocellP c s)
/-- The core's waits, whatever they are. -/
def owesAny : sProp 𝕄 := iprop(∃ W, owes (c : Thread nD τ) 0 W)

set_option maxHeartbeats 1000000 in
/-- The first trip: no result is on its way out yet. -/
theorem firstRun (k : Fin k0_t1_loop.trips) (h0 : k.val = 0) (r0) :
    iprop(inF c XA (Ring.sl 2 k.val) (Ring.bk 10 k.val) ∗ inFree c (Ring.sl 2 (k.val+1)) ∗ xhomeP c XA (Ring.bk 10 (k.val+1))
      ∗ outFree c (Ring.sl 2 k.val) ∗ ohomeP c (Ring.bk 10 k.val) r0
      ∗ owesAny c)
    ⊢ wp frame (wpE (defs₀ (F := F)) 𝒱₀ (c : Thread nD τ) none) Set.univ (tripG arg1 harg1 arg2 harg2 v0 v2 k) (fun a =>
      iprop(⌜a = acc (k.val+1)⌝ ∗ inF c XA (Ring.sl 2 (k.val+1)) (Ring.bk 10 (k.val+1)) ∗ inFree c (Ring.sl 2 k.val) ∗ xhomeP c XA (Ring.bk 10 k.val)
      ∗ outF c XA v0 v2 (Ring.sl 2 k.val) (Ring.bk 10 k.val)
      ∗ owesAny c)) := by
  have h9 : k.val < 9 := by omega
  have hc1 := (cond1_iff k).2 (by omega)
  have hc2 := cond2_true k
  have hc5 := cond5_true k
  have hc7 : ¬ k0_cond7 k (w9 k.val) = 1#1 := fun h => by have := (cond7_iff k).1 h; omega
  have hk1 := chk1 k
  have hk2 := chk2 k
  have hk3 := chk3 k
  unfold inF inFree outFree outF owesAny
  iintro ⟨⟨%f0, HF⟩, ⟨⟨%f1, HS⟩, HC⟩, HX, ⟨⟨%g0, HG⟩, HD⟩, HO, ⟨%W, HW⟩⟩
  dsimp only [tripG]
  sl_unfold [k0_t1_body]
  sl_exec
  have hv : firstRun.sl.v101_r0 c XA k hk2 = xin c XA (Ring.bk 10 k.val) := load_eq c XA (Ring.sl 2 k.val) (Ring.bk 10 k.val) _ (off9_eq k) hk2
  have hst : (oslot (Ring.sl 2 k.val)).view.read (Elt F) (firstRun.sl.HG_w1 c XA v0 v2 k hk2 hk3 g0) = outBlk c XA v0 v2 (Ring.bk 10 k.val) := by
    unfold firstRun.sl.HG_w1 firstRun.sl.r
    rw [hv]
    exact store_eq c (Ring.sl 2 k.val) g0 (off10_eq k) hk3 _
  have words : ∀ k : Fin k0_t1_loop.trips, k.val = 0 →
      (firstRun.sl.v81_r0 k, firstRun.sl.v160_r0 k, firstRun.sl.v142_r0 k, firstRun.sl.v156_r0 k, firstRun.sl.v65_r0 k) = acc (k.val + 1) := by decide
  sl_step
  isplitr
  · ipureintro
    exact words k h0
  isplitl [HC]; · iexists f1; iexact HC
  isplitl [HF_dst HF]
  · isplitl [HF_dst]; · iexists _; iexact HF_dst
    iexact HF
  isplitl [HF_src]; · iexact HF_src
  isplitl [HD]
  · iexists (firstRun.sl.HG_w1 c XA v0 v2 k hk2 hk3 g0), r0
    isplitr
    · ipureintro; exact hst
    iexact HD
  iexists _; iexact HW

set_option maxHeartbeats 1000000 in
/-- A trip that is neither the first nor the last. -/
theorem midRun (k : Fin k0_t1_loop.trips) (h0 : 0 < k.val) (h9 : k.val < 9) (r0) :
    iprop(inF c XA (Ring.sl 2 k.val) (Ring.bk 10 k.val) ∗ inFree c (Ring.sl 2 (k.val+1)) ∗ xhomeP c XA (Ring.bk 10 (k.val+1))
      ∗ outFree c (Ring.sl 2 k.val) ∗ outF c XA v0 v2 (Ring.sl 2 (k.val+1)) (Ring.bk 10 (k.val-1)) ∗ ohomeP c (Ring.bk 10 k.val) r0
      ∗ owesAny c)
    ⊢ wp frame (wpE (defs₀ (F := F)) 𝒱₀ (c : Thread nD τ) none) Set.univ (tripG arg1 harg1 arg2 harg2 v0 v2 k) (fun a =>
      iprop(⌜a = acc (k.val+1)⌝ ∗ inF c XA (Ring.sl 2 (k.val+1)) (Ring.bk 10 (k.val+1)) ∗ inFree c (Ring.sl 2 k.val) ∗ xhomeP c XA (Ring.bk 10 k.val)
      ∗ outF c XA v0 v2 (Ring.sl 2 k.val) (Ring.bk 10 k.val) ∗ outFree c (Ring.sl 2 (k.val+1)) ∗ ohomeP c (Ring.bk 10 (k.val-1)) (OUT c XA v0 v2)
      ∗ owesAny c)) := by
  have hc1 := (cond1_iff k).2 h9
  have hc2 := cond2_true k
  have hc5 := cond5_true k
  have hc7 := (cond7_iff k).2 h0
  have hk1 := chk1 k
  have hk2 := chk2 k
  have hk3 := chk3 k
  unfold inF inFree outFree outF owesAny
  iintro ⟨⟨%f0, HF⟩, ⟨⟨%f1, HS⟩, HC⟩, HX, ⟨⟨%g0, HG⟩, HD⟩, ⟨%g1, %r1, %hg1, HR⟩, HO, ⟨%W, HW⟩⟩
  dsimp only [tripG]
  sl_unfold [k0_t1_body]
  sl_exec
  have e := done_eq c XA v0 v2 _ (Ring.bk 10 (k.val-1)) g1 r1 hg1
  have hv : midRun.sl.v101_r0 c XA k hk2 = xin c XA (Ring.bk 10 k.val) := load_eq c XA (Ring.sl 2 k.val) (Ring.bk 10 k.val) _ (off9_eq k) hk2
  have hst : (oslot (Ring.sl 2 k.val)).view.read (Elt F) (midRun.sl.HG_w1 c XA v0 v2 k hk2 hk3 g0) = outBlk c XA v0 v2 (Ring.bk 10 k.val) := by
    unfold midRun.sl.HG_w1 midRun.sl.r
    rw [hv]
    exact store_eq c (Ring.sl 2 k.val) g0 (off10_eq k) hk3 _
  have words : ∀ k : Fin k0_t1_loop.trips, 0 < k.val → k.val < 9 →
      (midRun.sl.v81_r0 k, midRun.sl.v160_r0 k, midRun.sl.v142_r0 k, midRun.sl.v156_r0 k, midRun.sl.v65_r0 k) = acc (k.val + 1) := by decide
  sl_step
  isplitr
  · ipureintro
    exact words k h0 h9
  isplitl [HC]; · iexists f1; iexact HC
  isplitl [HF_dst HF]
  · isplitl [HF_dst]; · iexists _; iexact HF_dst
    iexact HF
  isplitl [HF_src]; · iexact HF_src
  isplitl [HD]
  · iexists (midRun.sl.HG_w1 c XA v0 v2 k hk2 hk3 g0), r0
    isplitr
    · ipureintro; exact hst
    iexact HD
  isplitl [HR_src HR]
  · isplitl [HR_src]; · iexists g1; iexact HR_src
    iexact HR
  isplitl [HR_dst]; · iapply (entails_of_eq e); iexact HR_dst
  iexists _; iexact HW

set_option maxHeartbeats 1000000 in
/-- The last trip: every block of `x` has been asked for. -/
theorem lastRun (k : Fin k0_t1_loop.trips) (h9 : k.val = 9) (r0) :
    iprop(inF c XA (Ring.sl 2 k.val) (Ring.bk 10 k.val)
      ∗ outFree c (Ring.sl 2 k.val) ∗ outF c XA v0 v2 (Ring.sl 2 (k.val+1)) (Ring.bk 10 (k.val-1)) ∗ ohomeP c (Ring.bk 10 k.val) r0
      ∗ owesAny c)
    ⊢ wp frame (wpE (defs₀ (F := F)) 𝒱₀ (c : Thread nD τ) none) Set.univ (tripG arg1 harg1 arg2 harg2 v0 v2 k) (fun a =>
      iprop(⌜a = acc (k.val+1)⌝ ∗ inFree c (Ring.sl 2 k.val) ∗ xhomeP c XA (Ring.bk 10 k.val)
      ∗ outF c XA v0 v2 (Ring.sl 2 k.val) (Ring.bk 10 k.val) ∗ outFree c (Ring.sl 2 (k.val+1)) ∗ ohomeP c (Ring.bk 10 (k.val-1)) (OUT c XA v0 v2)
      ∗ owesAny c)) := by
  have h0 : 0 < k.val := by omega
  have hc1 : ¬ k0_cond1 k (w9 k.val) = 1#1 := fun h => by have := (cond1_iff k).1 h; omega
  have hc2 := cond2_true k
  have hc5 := cond5_true k
  have hc7 := (cond7_iff k).2 h0
  have hk1 := chk1 k
  have hk2 := chk2 k
  have hk3 := chk3 k
  unfold inF inFree outFree outF owesAny
  iintro ⟨⟨%f0, HF⟩, ⟨⟨%g0, HG⟩, HD⟩, ⟨%g1, %r1, %hg1, HR⟩, HO, ⟨%W, HW⟩⟩
  dsimp only [tripG]
  sl_unfold [k0_t1_body]
  sl_exec
  have e := done_eq c XA v0 v2 _ (Ring.bk 10 (k.val-1)) g1 r1 hg1
  have hv : lastRun.sl.v101_r0 c XA k hk2 = xin c XA (Ring.bk 10 k.val) := load_eq c XA (Ring.sl 2 k.val) (Ring.bk 10 k.val) _ (off9_eq k) hk2
  have hst : (oslot (Ring.sl 2 k.val)).view.read (Elt F) (lastRun.sl.HG_w1 c XA v0 v2 k hk2 hk3 g0) = outBlk c XA v0 v2 (Ring.bk 10 k.val) := by
    unfold lastRun.sl.HG_w1 lastRun.sl.r
    rw [hv]
    exact store_eq c (Ring.sl 2 k.val) g0 (off10_eq k) hk3 _
  have words : ∀ k : Fin k0_t1_loop.trips, k.val = 9 →
      (lastRun.sl.v81_r0 k, lastRun.sl.v160_r0 k, lastRun.sl.v142_r0 k, lastRun.sl.v156_r0 k, lastRun.sl.v65_r0 k) = acc (k.val + 1) := by decide
  sl_step
  isplitr
  · ipureintro
    exact words k h9
  isplitl [HF_dst HF]
  · isplitl [HF_dst]; · iexists _; iexact HF_dst
    iexact HF
  isplitl [HF_src]; · iexact HF_src
  isplitl [HD]
  · iexists (lastRun.sl.HG_w1 c XA v0 v2 k hk2 hk3 g0), r0
    isplitr
    · ipureintro; exact hst
    iexact HD
  isplitl [HR_src HR]
  · isplitl [HR_src]; · iexists g1; iexact HR_src
    iexact HR
  isplitl [HR_dst]; · iapply (entails_of_eq e); iexact HR_dst
  iexists _; iexact HW

end
end Cert.Proof.Pipe
end
-- ==== Proof.Loop.lean ====
/-
  The loop's invariant and the kernel's body.

  Before trip `k` block `k` of `x` is on its way into one slot and the other slot is free; the result of block
  `k - 1` is on its way out of one slot and the other is free; the results before that are in place, those from
  `k` on are still the array's first contents.
-/
module

public import proofs.«01_k».proof.Proof.Trip
@[expose] public section
noncomputable section

namespace Cert.Proof.Pipe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section
variable (c : Dev nD) (XA : Buf (Elt F) (xM.view.loc (c : Thread nD τ))) (O0 : S10000x40.Idx → Elt F .f32)
  (arg1 : Memref sig .tc .vmem S40x128 .f32) (harg1 : arg1.IsWhole)
  (arg2 : Memref sig .tc .vmem S1x40 .f32) (harg2 : arg2.IsWhole) (v0 : Vec F S40x128 .f32) (v2 : FVec F S1x40 .f32)

/-! ## The invariant -/

/-- Results that are in place before trip `k`, and results that no trip has computed. -/
abbrev doneSet (k : ℕ) : Finset (Fin 10) := Finset.univ.filter (fun b => b.val + 1 < k)
abbrev todoSet (k : ℕ) : Finset (Fin 10) := Finset.univ.filter (fun b => k ≤ b.val)

/-- The input side before trip `k`; after the last trip everything is home. -/
def inSide (k : ℕ) : sProp 𝕄 :=
  if k < 10 then iprop(inF c XA (Ring.sl 2 k) (Ring.bk 10 k) ∗ inFree c (Ring.sl 2 (k + 1)) ∗ bigSep (Finset.univ.erase (Ring.bk 10 k)) (xhomeP c XA))
  else iprop(inFree c 0 ∗ inFree c 1 ∗ bigSep Finset.univ (xhomeP c XA))
/-- The other result slot: free before the first trip, else on its way out with the last result. -/
def outLast (k : ℕ) : sProp 𝕄 :=
  if k = 0 then outFree c (Ring.sl 2 (k + 1)) else outF c XA v0 v2 (Ring.sl 2 (k + 1)) (Ring.bk 10 (k - 1))
/-- The invariant before trip `k`. -/
def invAt (k : ℕ) (a : BitVec 32 × BitVec 32 × BitVec 32 × BitVec 32 × BitVec 32) : sProp 𝕄 :=
  iprop(⌜a = acc k⌝ ∗ inSide c XA k ∗ outFree c (Ring.sl 2 k) ∗ outLast c XA v0 v2 k
    ∗ bigSep (doneSet k) (fun b => ohomeP c b (OUT c XA v0 v2)) ∗ bigSep (todoSet k) (fun b => ohomeP c b O0) ∗ owesAny c)

omit [FloatOps F] in
theorem sl_two (k : ℕ) : Ring.sl 2 (k + 1 + 1) = Ring.sl 2 k := Ring.sl_add 2 k

theorem todo_out (k : ℕ) (hk : k < 10) :
    bigSep (todoSet k) (fun b => (ohomeP c b O0 : sProp 𝕄)) = iprop(ohomeP c (Ring.bk 10 k) O0 ∗ bigSep (todoSet (k + 1)) (fun b => ohomeP c b O0)) := by
  have e : todoSet k = insert (Ring.bk 10 k) (todoSet (k + 1)) := by
    ext b; simp only [todoSet, Finset.mem_filter, Finset.mem_univ, true_and, Finset.mem_insert, Fin.ext_iff, Ring.bk_val hk]; omega
  rw [e, bigSep_insert (by simp only [todoSet, Finset.mem_filter, Finset.mem_univ, true_and, Ring.bk_val hk]; omega)]; rfl
theorem done_in (k : ℕ) (h0 : 0 < k) (hk : k < 11) :
    bigSep (doneSet (k + 1)) (fun b => (ohomeP c b O0 : sProp 𝕄)) = iprop(ohomeP c (Ring.bk 10 (k - 1)) O0 ∗ bigSep (doneSet k) (fun b => ohomeP c b O0)) := by
  have e : doneSet (k + 1) = insert (Ring.bk 10 (k - 1)) (doneSet k) := by
    ext b; simp only [doneSet, Finset.mem_filter, Finset.mem_univ, true_and, Finset.mem_insert, Fin.ext_iff, Ring.bk_val (show k - 1 < 10 by omega)]; omega
  rw [e, bigSep_insert (by simp only [doneSet, Finset.mem_filter, Finset.mem_univ, true_and, Ring.bk_val (show k - 1 < 10 by omega)]; omega)]; rfl
theorem home_out (b b' : Fin 10) (h : b ≠ b') :
    bigSep (Finset.univ.erase b) (xhomeP c XA) = iprop(xhomeP c XA b' ∗ bigSep ((Finset.univ.erase b).erase b') (xhomeP c XA)) := by
  conv_lhs => rw [← Finset.insert_erase (show b' ∈ (Finset.univ : Finset (Fin 10)).erase b by simp [h.symm]), bigSep_insert (Finset.notMem_erase _ _)]
  rfl
theorem home_all (b : Fin 10) :
    bigSep Finset.univ (xhomeP c XA) = iprop(xhomeP c XA b ∗ bigSep (Finset.univ.erase b) (xhomeP c XA)) := by
  conv_lhs => rw [← Finset.insert_erase (Finset.mem_univ b), bigSep_insert (Finset.notMem_erase _ _)]
  rfl

/-! ## One trip keeps it -/

/-- What the trips of the three kinds have in common, from what the run needs. -/
theorem step_first (k : Fin k0_t1_loop.trips) (h : k.val = 0) :
    invAt c XA O0 v0 v2 k.val (acc k.val)
      ⊢ wp frame (wpE (defs₀ (F := F)) 𝒱₀ (c : Thread nD τ) none) Set.univ (tripG arg1 harg1 arg2 harg2 v0 v2 k) (invAt c XA O0 v0 v2 (k.val + 1)) := by
  have hb : Ring.bk 10 k.val ≠ Ring.bk 10 (k.val + 1) := by
    intro e; have := congrArg Fin.val e; rw [Ring.bk_val (by omega), Ring.bk_val (by omega)] at this; omega
  have ed : doneSet (k.val + 1) = doneSet k.val := by
    ext b; simp only [doneSet, Finset.mem_filter, Finset.mem_univ, true_and]; omega
  unfold invAt inSide outLast
  rw [if_pos (show k.val < 10 by omega), if_pos h, if_pos (show k.val + 1 < 10 by omega), if_neg (show ¬ k.val + 1 = 0 by omega), ed,
    todo_out c O0 k.val (by omega), home_out c XA _ _ hb, home_out c XA _ _ hb.symm, sl_two, Finset.erase_right_comm (a := Ring.bk 10 (k.val + 1)), Nat.add_sub_cancel]
  iintro ⟨-, ⟨HI, HJ, HX, HR⟩, HO, HL, HD, ⟨HT, HU⟩, HW⟩
  iapply (wp_wand_r Idealize.ShloMosaic.frame (wpE (defs₀ (F := F)) 𝒱₀ (c : Thread nD τ) none) Set.univ)
  isplitl [HI HJ HX HO HT HW]
  · iapply (firstRun c XA arg1 harg1 arg2 harg2 v0 v2 k h O0)
    isplitl [HI]; · iexact HI
    isplitl [HJ]; · iexact HJ
    isplitl [HX]; · iexact HX
    isplitl [HO]; · iexact HO
    isplitl [HT]; · iexact HT
    iexact HW
  · iintro %a ⟨%ha, HI, HJ, HX, HO, HW⟩
    isplitr; · ipureintro; exact ha
    isplitl [HI HJ HX HR]
    · isplitl [HI]; · iexact HI
      isplitl [HJ]; · iexact HJ
      isplitl [HX]; · iexact HX
      iexact HR
    isplitl [HL]; · iexact HL
    isplitl [HO]; · iexact HO
    isplitl [HD]; · iexact HD
    isplitl [HU]; · iexact HU
    iexact HW

theorem step_mid (k : Fin k0_t1_loop.trips) (h0 : 0 < k.val) (h9 : k.val < 9) :
    invAt c XA O0 v0 v2 k.val (acc k.val)
      ⊢ wp frame (wpE (defs₀ (F := F)) 𝒱₀ (c : Thread nD τ) none) Set.univ (tripG arg1 harg1 arg2 harg2 v0 v2 k) (invAt c XA O0 v0 v2 (k.val + 1)) := by
  have hb : Ring.bk 10 k.val ≠ Ring.bk 10 (k.val + 1) := by
    intro e; have := congrArg Fin.val e; rw [Ring.bk_val (by omega), Ring.bk_val (by omega)] at this; omega
  unfold invAt inSide outLast
  rw [if_pos (show k.val < 10 by omega), if_neg (show ¬ k.val = 0 by omega), if_pos (show k.val + 1 < 10 by omega), if_neg (show ¬ k.val + 1 = 0 by omega),
    done_in c (OUT c XA v0 v2) k.val h0 (by omega),
    todo_out c O0 k.val (by omega), home_out c XA _ _ hb, home_out c XA _ _ hb.symm, sl_two, Finset.erase_right_comm (a := Ring.bk 10 (k.val + 1)), Nat.add_sub_cancel]
  iintro ⟨-, ⟨HI, HJ, HX, HR⟩, HO, HL, HD, ⟨HT, HU⟩, HW⟩
  iapply (wp_wand_r Idealize.ShloMosaic.frame (wpE (defs₀ (F := F)) 𝒱₀ (c : Thread nD τ) none) Set.univ)
  isplitl [HI HJ HX HO HL HT HW]
  · iapply (midRun c XA arg1 harg1 arg2 harg2 v0 v2 k h0 h9 O0)
    isplitl [HI]; · iexact HI
    isplitl [HJ]; · iexact HJ
    isplitl [HX]; · iexact HX
    isplitl [HO]; · iexact HO
    isplitl [HL]; · iexact HL
    isplitl [HT]; · iexact HT
    iexact HW
  · iintro %a ⟨%ha, HI, HJ, HX, HO, HL, HN, HW⟩
    isplitr; · ipureintro; exact ha
    isplitl [HI HJ HX HR]
    · isplitl [HI]; · iexact HI
      isplitl [HJ]; · iexact HJ
      isplitl [HX]; · iexact HX
      iexact HR
    isplitl [HL]; · iexact HL
    isplitl [HO]; · iexact HO
    isplitl [HD HN]
    · isplitl [HN]; · iexact HN
      iexact HD
    isplitl [HU]; · iexact HU
    iexact HW

theorem step_last (k : Fin k0_t1_loop.trips) (h : k.val = 9) :
    invAt c XA O0 v0 v2 k.val (acc k.val)
      ⊢ wp frame (wpE (defs₀ (F := F)) 𝒱₀ (c : Thread nD τ) none) Set.univ (tripG arg1 harg1 arg2 harg2 v0 v2 k) (invAt c XA O0 v0 v2 (k.val + 1)) := by
  have e0 : Ring.sl 2 (k.val + 1) = 0 := by rw [h]; decide
  have e1 : Ring.sl 2 k.val = 1 := by rw [h]; decide
  unfold invAt inSide outLast
  rw [if_pos (show k.val < 10 by omega), if_neg (show ¬ k.val = 0 by omega), if_neg (show ¬ k.val + 1 < 10 by omega), if_neg (show ¬ k.val + 1 = 0 by omega),
    done_in c (OUT c XA v0 v2) k.val (by omega) (by omega),
    todo_out c O0 k.val (by omega), home_all c XA (Ring.bk 10 k.val), sl_two, Nat.add_sub_cancel]
  iintro ⟨-, ⟨HI, HJ, HR⟩, HO, HL, HD, ⟨HT, HU⟩, HW⟩
  iapply (wp_wand_r Idealize.ShloMosaic.frame (wpE (defs₀ (F := F)) 𝒱₀ (c : Thread nD τ) none) Set.univ)
  isplitl [HI HO HL HT HW]
  · iapply (lastRun c XA arg1 harg1 arg2 harg2 v0 v2 k h O0)
    isplitl [HI]; · iexact HI
    isplitl [HO]; · iexact HO
    isplitl [HL]; · iexact HL
    isplitl [HT]; · iexact HT
    iexact HW
  · iintro %a ⟨%ha, HI, HX, HO, HL, HN, HW⟩
    isplitr; · ipureintro; exact ha
    isplitl [HI HJ HX HR]
    · isplitl [HJ]; · rw [e0]; iexact HJ
      isplitl [HI]; · rw [e1]; iexact HI
      isplitl [HX]; · iexact HX
      iexact HR
    isplitl [HL]; · iexact HL
    isplitl [HO]; · iexact HO
    isplitl [HD HN]
    · isplitl [HN]; · iexact HN
      iexact HD
    isplitl [HU]; · iexact HU
    iexact HW

set_option warn.classDefReducibility false in
/-- The invariant of the kernel's loop. -/
@[sl_loop] def loopInv (init : BitVec 32 × BitVec 32 × BitVec 32 × BitVec 32 × BitVec 32) :
    LoopInvTy_k0_t1 (F := F) Unit ℕ (UU nD τ) ℕ 𝒱₀ c none Set.univ xM (Memref.isWhole_whole _) arg1 harg1 arg2 harg2 oM (Memref.isWhole_whole _)
      xbM (Memref.isWhole_whole _) cc0_scoped1 obM (Memref.isWhole_whole _) cc0_scoped3 v0 v2 0#32 init where
  inv k a := invAt c XA O0 v0 v2 k a
  step k a := by
    have h10 : k.val < 10 := Nat.lt_of_lt_of_eq k.isLt trips_eq
    by_cases e : a = acc k.val
    · subst e
      by_cases h0 : k.val = 0
      · exact step_first c XA O0 arg1 harg1 arg2 harg2 v0 v2 k h0
      · by_cases h9 : k.val < 9
        · exact step_mid c XA O0 arg1 harg1 arg2 harg2 v0 v2 k (by omega) h9
        · exact step_last c XA O0 arg1 harg1 arg2 harg2 v0 v2 k (by omega)
    · unfold invAt; iintro ⟨%e', -⟩; exact absurd e' e

/-! ## The kernel's body -/

/-- The body on the two staging buffers given. -/
abbrev bodyG : Prog (TpuEff nD τ sig (Elt F) Λ₀ .tc) PUnit :=
  cc0__decoder_outer xM (Memref.isWhole_whole _) arg1 harg1 arg2 harg2 oM (Memref.isWhole_whole _)
    xbM (Memref.isWhole_whole _) cc0_scoped1 obM (Memref.isWhole_whole _) cc0_scoped3

abbrev wP (g : Buf (Elt F) (arg1.view.loc (c : Thread nD τ))) : sProp 𝕄 := arg1.view.loc (c : Thread nD τ) ↦[arg1.view.set]{fullShare} g
abbrev bP (g : Buf (Elt F) (arg2.view.loc (c : Thread nD τ))) : sProp 𝕄 := arg2.view.loc (c : Thread nD τ) ↦[arg2.view.set]{fullShare} g

/-- The matrix and the bias as the body reads them from their staging buffers. -/
abbrev v0Of (g : Buf (Elt F) (arg1.view.loc (c : Thread nD τ))) : Vec F S40x128 .f32 :=
  arg1.view.readAt (Elt F) (Rect.unit (s := S40x128) ![0, 0] S40x128.size inb_S40x128_S40x128_0_0).toLoadRect g
abbrev v2Of (g : Buf (Elt F) (arg2.view.loc (c : Thread nD τ))) : FVec F S1x40 .f32 :=
  k0_pay3 (F := F) (arg2.view.readAt (Elt F) (Rect.unit (s := S1x40) ![0, 0] S1x40.size inb_S1x40_S1x40_0_0).toLoadRect g)

/-- The slots and the semaphores that the kernel takes for itself, all free. -/
def allFree : sProp 𝕄 := iprop(inFree c 0 ∗ inFree c 1 ∗ outFree c 0 ∗ outFree c 1)

omit [FloatOps F] in
theorem todo_zero : todoSet 0 = Finset.univ := by decide
omit [FloatOps F] in
theorem done_zero : doneSet 0 = ∅ := by decide

/-- The invariant before the first trip, once block 0 has been asked for. -/
theorem inv_zero :
    iprop(inF c XA 0 0 ∗ inFree c 1 ∗ bigSep (Finset.univ.erase 0) (xhomeP c XA) ∗ outFree c 0 ∗ outFree c 1
        ∗ bigSep Finset.univ (fun b => ohomeP c b O0) ∗ owesAny c)
      ⊢ invAt c XA O0 v0 v2 0 (1#32, 0#32, 0#32, 0#32, 0#32) := by
  unfold invAt inSide outLast
  rw [if_pos (by decide), if_pos rfl, todo_zero, done_zero, bigSep_empty]
  iintro ⟨HI, HJ, HX, HO, HL, HU, HW⟩
  isplitr; · ipureintro; decide
  isplitl [HI HJ HX]
  · isplitl [HI]; · iexact HI
    isplitl [HJ]; · iexact HJ
    iexact HX
  isplitl [HO]; · iexact HO
  isplitl [HL]; · iexact HL
  isplitr; · iempintro
  isplitl [HU]; · iexact HU
  iexact HW

omit [FloatOps F] in
theorem todo_ten : todoSet 10 = ∅ := by decide

/-- All ten results: the last beside the nine before it. -/
theorem done_all : bigSep Finset.univ (fun b => (ohomeP c b O0 : sProp 𝕄)) = iprop(ohomeP c 9 O0 ∗ bigSep (doneSet 10) (fun b => ohomeP c b O0)) := by
  rw [show (Finset.univ : Finset (Fin 10)) = doneSet 11 by decide]
  exact done_in c O0 10 (by decide) (by decide)

/-- The invariant after the last trip. -/
theorem inv_ten (a) :
    invAt c XA O0 v0 v2 (Scf.trips k0_t1_loop.lb k0_t1_loop.ub k0_t1_loop.st) a
      ⊢ iprop(⌜a = acc 10⌝ ∗ inFree c 0 ∗ inFree c 1 ∗ bigSep Finset.univ (xhomeP c XA) ∗ outFree c 0 ∗ outF c XA v0 v2 1 9
          ∗ bigSep (doneSet 10) (fun b => ohomeP c b (OUT c XA v0 v2)) ∗ owesAny c) := by
  rw [show Scf.trips k0_t1_loop.lb k0_t1_loop.ub k0_t1_loop.st = 10 from trips_eq]
  unfold invAt inSide outLast
  rw [if_neg (by decide), if_neg (by decide), todo_ten, bigSep_empty]
  iintro ⟨%ha, ⟨HI, HJ, HX⟩, HO, HL, HD, -, HW⟩
  isplitr; · ipureintro; exact ha
  isplitl [HI]; · iexact HI
  isplitl [HJ]; · iexact HJ
  isplitl [HX]; · iexact HX
  isplitl [HO]; · iexact HO
  isplitl [HL]; · iexact HL
  isplitl [HD]; · iexact HD
  iexact HW

attribute [local irreducible] invAt in
theorem bodyRun (gW gB) (Q : PUnit → sProp 𝕄) :
    iprop((wP c arg1 gW ∗ bP c arg2 gB ∗ bigSep Finset.univ (xhomeP c XA) ∗ bigSep Finset.univ (fun b => ohomeP c b O0) ∗ allFree c ∗ owesAny c)
      ∗ ((wP c arg1 gW ∗ bP c arg2 gB ∗ bigSep Finset.univ (xhomeP c XA)
          ∗ bigSep Finset.univ (fun b => ohomeP c b (OUT c XA (v0Of c arg1 gW) (v2Of c arg2 gB))) ∗ allFree c ∗ owesAny c) -∗ Q ⟨⟩))
      ⊢ wp frame (wpE (defs₀ (F := F)) 𝒱₀ (c : Thread nD τ) none) Set.univ (bodyG arg1 harg1 arg2 harg2) Q := by
  have hk4 := chk4
  have hk5 := chk5
  unfold allFree
  rw [home_all c XA 0]
  unfold inFree owesAny
  iintro ⟨⟨HWm, HB, ⟨HX0, HX⟩, HO, ⟨⟨⟨%f0, HS⟩, HC⟩, HI1, HO0, HO1⟩, ⟨%W, HW⟩⟩, Hk⟩
  dsimp only [bodyG]
  sl_unfold [cc0__decoder_outer]
  sl_exec
  ihave Hinv := (inv_zero c XA O0 (bodyRun.sl.r c arg1 gW) (bodyRun.sl.v2 c arg2 gB)) $$ [HC HX HI1 HO0 HO1 HO HW]
  · unfold inF inFree owesAny
    isplitl [HC]; · iexists f0; iexact HC
    isplitl [HI1]; · iexact HI1
    isplitl [HX]; · iexact HX
    isplitl [HO0]; · iexact HO0
    isplitl [HO1]; · iexact HO1
    isplitl [HO]; · iexact HO
    iexists W; iexact HW
  sl_exec
  ihave Hend := (inv_ten c XA O0 (bodyRun.sl.r c arg1 gW) (bodyRun.sl.v2 c arg2 gB) _) $$ Hinv
  unfold outF owesAny
  icases Hend with ⟨%ha, HI0, HI1, HX, HO0, ⟨%g1, %r1, %hg1, HR⟩, HD, ⟨%W', HW⟩⟩
  subst ha
  sl_exec
  have e := done_eq c XA _ _ _ (9 : Fin 10) g1 r1 hg1
  sl_step
  iapply Hk
  isplitl [HWm]; · iexact HWm
  isplitl [HB]; · iexact HB
  isplitl [HX]; · iapply (entails_of_eq (home_all c XA 0)); iexact HX
  isplitl [HD HR_dst]
  · iapply (entails_of_eq (done_all c (OUT c XA (v0Of c arg1 gW) (v2Of c arg2 gB))).symm)
    isplitl [HR_dst]; · iapply (entails_of_eq e); iexact HR_dst
    iexact HD
  isplitl [HI0 HI1 HO0 HR_src HR]
  · isplitl [HI0]; · unfold inFree; iexact HI0
    isplitl [HI1]; · unfold inFree; iexact HI1
    isplitl [HO0]; · iexact HO0
    unfold outFree
    isplitl [HR_src]; · iexists g1; iexact HR_src
    iexact HR
  iexists _; iexact HW

end
end Cert.Proof.Pipe
end
-- ==== Proof.Launch.lean ====
/-
  The launch: the buffers split into the pieces that the body moves, the pipeline's proof data, and the run.
-/
module

public import proofs.«01_k».proof.Proof.Loop
public import proofs.«01_k».proof.Proof.Gen.KernelIdeal.Frame
@[expose] public section
noncomputable section

namespace Cert.Proof.Pipe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Element sets: ten blocks of rows, two slots -/

abbrev xrows (b : Fin 10) : Finset S10000x128.Idx := (Rect.unit (s := S10000x128) (rowOff b) S1000x128.size (xrow_inb b)).set
abbrev orows (b : Fin 10) : Finset S10000x40.Idx := (Rect.unit (s := S10000x40) (rowOff b) S1000x40.size (orow_inb b)).set
abbrev xplane (s : Fin 2) : Finset S2x1000x128.Idx := (Rect.unit (s := S2x1000x128) (slotOff s) S1x1000x128.size (xslot_inb s)).set
abbrev oplane (s : Fin 2) : Finset S2x1000x40.Idx := (Rect.unit (s := S2x1000x40) (slotOff s) S1x1000x40.size (oslot_inb s)).set

theorem xblk_set (b : Fin 10) : (xblk b).view.set = xrows b := View.set_slice_whole _ _
theorem oblk_set (b : Fin 10) : (oblk b).view.set = orows b := View.set_slice_whole _ _
theorem xslot_set (s : Fin 2) : (xslot s).view.set = xplane s := (View.set_reshape _ _).trans (View.set_slice_whole _ _)
theorem oslot_set (s : Fin 2) : (oslot s).view.set = oplane s := (View.set_reshape _ _).trans (View.set_slice_whole _ _)

theorem mem_xrows (b : Fin 10) (y : S10000x128.Idx) : y ∈ xrows b ↔ (y 0).val / 1000 = b.val := by
  rw [Rect.mem_set_unit]
  have h1 : (y 1).val < 128 := (y 1).isLt
  constructor
  · intro H; have a0 : 1000 * b.val ≤ (y 0).val ∧ (y 0).val < 1000 * b.val + 1000 := H 0; omega
  · intro H i; fin_cases i
    · show 1000 * b.val ≤ (y 0).val ∧ (y 0).val < 1000 * b.val + 1000; omega
    · show 0 ≤ (y 1).val ∧ (y 1).val < 0 + 128; omega
theorem mem_orows (b : Fin 10) (y : S10000x40.Idx) : y ∈ orows b ↔ (y 0).val / 1000 = b.val := by
  rw [Rect.mem_set_unit]
  have h1 : (y 1).val < 40 := (y 1).isLt
  constructor
  · intro H; have a0 : 1000 * b.val ≤ (y 0).val ∧ (y 0).val < 1000 * b.val + 1000 := H 0; omega
  · intro H i; fin_cases i
    · show 1000 * b.val ≤ (y 0).val ∧ (y 0).val < 1000 * b.val + 1000; omega
    · show 0 ≤ (y 1).val ∧ (y 1).val < 0 + 40; omega
theorem mem_xplane (s : Fin 2) (y : S2x1000x128.Idx) : y ∈ xplane s ↔ (y 0).val = s.val := by
  rw [Rect.mem_set_unit]
  have h1 : (y 1).val < 1000 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1000; omega
    · show 0 ≤ (y 2).val ∧ (y 2).val < 0 + 128; omega
theorem mem_oplane (s : Fin 2) (y : S2x1000x40.Idx) : y ∈ oplane s ↔ (y 0).val = s.val := by
  rw [Rect.mem_set_unit]
  have h1 : (y 1).val < 1000 := (y 1).isLt
  have h2 : (y 2).val < 40 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1000; omega
    · show 0 ≤ (y 2).val ∧ (y 2).val < 0 + 40; omega

/-- Sets told apart by one coordinate function are disjoint, and they cover when it hits every index. -/
theorem fibre_disjoint {ι : Type} [DecidableEq ι] {n : ℕ} (S : Fin n → Finset ι) (φ : ι → ℕ) (h : ∀ b y, y ∈ S b ↔ φ y = b.val) :
    ∀ b b', b ≠ b' → Disjoint (S b) (S b') := by
  intro b b' hne; rw [Finset.disjoint_left]; intro y hy hy'; rw [h] at hy hy'; exact hne (Fin.ext (hy.symm.trans hy'))
theorem fibre_cover {ι : Type} [DecidableEq ι] [Fintype ι] {n : ℕ} (S : Fin n → Finset ι) (φ : ι → ℕ) (h : ∀ b y, y ∈ S b ↔ φ y = b.val)
    (hn : ∀ y, φ y < n) : (Finset.univ : Finset (Fin n)).biUnion S = Finset.univ := by
  ext y; simp only [Finset.mem_biUnion, Finset.mem_univ, true_and, iff_true]; exact ⟨⟨φ y, hn y⟩, (h _ _).2 rfl⟩

section Split
variable (c : Dev nD)

/-- `x` whole is its ten blocks; so is the result. -/
theorem x_split (XA : Buf (Elt F) (xM.view.loc (c : Thread nD τ))) :
    (((c : Thread nD τ).loc main_arg0) ↦{fullShare} XA : sProp 𝕄) = bigSep Finset.univ (xhomeP c XA) := by
  rw [Ring.pointsTo_blocks (ℓ := (c : Thread nD τ).loc main_arg0) xrows
    (fibre_disjoint xrows (fun y => (y 0).val / 1000) mem_xrows)
    (fibre_cover xrows (fun y => (y 0).val / 1000) mem_xrows (fun y => by have : (y 0).val < 10000 := (y 0).isLt; omega))]
  exact bigSep_congr fun b _ => by rw [← xblk_set]; rfl
theorem o_split (O0 : S10000x40.Idx → Elt F .f32) :
    (((c : Thread nD τ).loc main_v0) ↦{fullShare} O0 : sProp 𝕄) = bigSep Finset.univ (fun b => ohomeP c b O0) := by
  rw [Ring.pointsTo_blocks (ℓ := (c : Thread nD τ).loc main_v0) orows
    (fibre_disjoint orows (fun y => (y 0).val / 1000) mem_orows)
    (fibre_cover orows (fun y => (y 0).val / 1000) mem_orows (fun y => by have : (y 0).val < 10000 := (y 0).isLt; omega))]
  exact bigSep_congr fun b _ => by rw [← oblk_set]; rfl

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem xslotP_eq (s : Fin 2) (f) : xslotP c s f = (((c : Thread nD τ).loc cc0_scoped0) ↦[xplane s]{fullShare} f : sProp 𝕄) :=
  congrArg (fun S => (_ ↦[S]{fullShare} f : sProp 𝕄)) (xslot_set s)
theorem oslotP_eq (s : Fin 2) (f) : oslotP c s f = (((c : Thread nD τ).loc cc0_scoped2) ↦[oplane s]{fullShare} f : sProp 𝕄) :=
  congrArg (fun S => (_ ↦[S]{fullShare} f : sProp 𝕄)) (oslot_set s)

theorem xplane_disjoint : ∀ b b', b ≠ b' → Disjoint (xplane b) (xplane b') := fibre_disjoint xplane (fun y => (y 0).val) mem_xplane
theorem xplane_cover : (Finset.univ : Finset (Fin 2)).biUnion xplane = Finset.univ := fibre_cover xplane (fun y => (y 0).val) mem_xplane (fun y => (y 0).isLt)
theorem oplane_disjoint : ∀ b b', b ≠ b' → Disjoint (oplane b) (oplane b') := fibre_disjoint oplane (fun y => (y 0).val) mem_oplane
theorem oplane_cover : (Finset.univ : Finset (Fin 2)).biUnion oplane = Finset.univ := fibre_cover oplane (fun y => (y 0).val) mem_oplane (fun y => (y 0).isLt)

/-- A scratch buffer whole is its two slots, and back. -/
theorem xb_split :
    iprop(∃ f : Buf (Elt F) ((c : Thread nD τ).loc cc0_scoped0), ((c : Thread nD τ).loc cc0_scoped0) ↦{fullShare} f)
      ⊢ (iprop((∃ f, xslotP c 0 f) ∗ ∃ f, xslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped0) xplane xplane_disjoint xplane_cover f).trans (bigSep_fin2 _))) $$ H
  icases H2 with ⟨H0, H1⟩
  isplitl [H0]
  · iexists f; iapply (entails_of_eq (xslotP_eq c 0 f).symm); iexact H0
  · iexists f; iapply (entails_of_eq (xslotP_eq c 1 f).symm); iexact H1
theorem xb_join :
    iprop((∃ f, xslotP c 0 f) ∗ ∃ f, xslotP c 1 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) xplane xplane_disjoint xplane_cover f0)
  irw [bigSep_fin2]
  isplitl [H0]
  · iexists f0; iapply (entails_of_eq (xslotP_eq c 0 f0)); iexact H0
  · iexists f1; iapply (entails_of_eq (xslotP_eq c 1 f1)); iexact H1
theorem ob_split :
    iprop(∃ f : Buf (Elt F) ((c : Thread nD τ).loc cc0_scoped2), ((c : Thread nD τ).loc cc0_scoped2) ↦{fullShare} f)
      ⊢ (iprop((∃ f, oslotP c 0 f) ∗ ∃ f, oslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped2) oplane oplane_disjoint oplane_cover f).trans (bigSep_fin2 _))) $$ H
  icases H2 with ⟨H0, H1⟩
  isplitl [H0]
  · iexists f; iapply (entails_of_eq (oslotP_eq c 0 f).symm); iexact H0
  · iexists f; iapply (entails_of_eq (oslotP_eq c 1 f).symm); iexact H1
theorem ob_join :
    iprop((∃ f, oslotP c 0 f) ∗ ∃ f, oslotP c 1 f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) oplane oplane_disjoint oplane_cover f0)
  irw [bigSep_fin2]
  isplitl [H0]
  · iexists f0; iapply (entails_of_eq (oslotP_eq c 0 f0)); iexact H0
  · iexists f1; iapply (entails_of_eq (oslotP_eq c 1 f1)); iexact H1

/-! ## The kernel's own semaphores -/

/-- The four of them: the input slots', then the result slots'. -/
abbrev osem : Fin 4 → SemLoc sig := ![.dma (csi 0).sem, .dma (csi 1).sem, .dma (cso 0).sem, .dma (cso 1).sem]
theorem ownSemFacts : Pipeline.OwnSemFacts spec0 osem := by decide

omit [FloatOps F] in
theorem ownSems0_eq : (Pipeline.ownSems0 (Ix := Unit) (Name := ℕ) (U := UU nD τ) (Lvl := ℕ) (Val := Elt F) (τ := τ) osem c : sProp 𝕄)
    = iprop(xcellP c 0 ∗ xcellP c 1 ∗ ocellP c 0 ∗ ocellP c 1) := by
  unfold Pipeline.ownSems0
  rw [bigSep_univ_eq_bigSepL [(0 : Fin 4), (1 : Fin 4), (2 : Fin 4), (3 : Fin 4)] (by decide) (by decide)]
  rfl

/-- Scratch buffers and semaphores, as the launch holds them and as the body does. -/
theorem free_in :
    iprop(Pipeline.scopedRest (Ix := Unit) (Name := ℕ) (U := UU nD τ) (Lvl := ℕ) (Val := Elt F) spec0 c
        ∗ Pipeline.ownSems0 (Ix := Unit) (Name := ℕ) (U := UU nD τ) (Lvl := ℕ) (Val := Elt F) (τ := τ) osem c) ⊢ (allFree c : sProp 𝕄) := by
  rw [scopedRest0_eq, ownSems0_eq]
  unfold allFree inFree outFree
  iintro ⟨⟨HX, HO⟩, HC0, HC1, HD0, HD1⟩
  ihave HX' := (xb_split c) $$ HX
  icases HX' with ⟨HX0, HX1⟩
  ihave HO' := (ob_split c) $$ HO
  icases HO' with ⟨HO0, HO1⟩
  isplitl [HX0 HC0]
  · isplitl [HX0]; · iexact HX0
    iexact HC0
  isplitl [HX1 HC1]
  · isplitl [HX1]; · iexact HX1
    iexact HC1
  isplitl [HO0 HD0]
  · isplitl [HO0]; · iexact HO0
    iexact HD0
  isplitl [HO1]; · iexact HO1
  iexact HD1
theorem free_out :
    (allFree c : sProp 𝕄) ⊢ iprop(Pipeline.scopedRest (Ix := Unit) (Name := ℕ) (U := UU nD τ) (Lvl := ℕ) (Val := Elt F) spec0 c
        ∗ Pipeline.ownSems0 (Ix := Unit) (Name := ℕ) (U := UU nD τ) (Lvl := ℕ) (Val := Elt F) (τ := τ) osem c) := by
  rw [scopedRest0_eq, ownSems0_eq]
  unfold allFree inFree outFree
  iintro ⟨⟨HX0, HC0⟩, ⟨HX1, HC1⟩, ⟨HO0, HD0⟩, ⟨HO1, HD1⟩⟩
  isplitl [HX0 HX1 HO0 HO1]
  · isplitl [HX0 HX1]
    · iapply (xb_join c)
      isplitl [HX0]; · iexact HX0
      iexact HX1
    · iapply (ob_join c)
      isplitl [HO0]; · iexact HO0
      iexact HO1
  isplitl [HC0]; · iexact HC0
  isplitl [HC1]; · iexact HC1
  isplitl [HD0]; · iexact HD0
  iexact HD1

end Split

/-! ## The pipeline's proof data -/

section Launch
variable (m : (ℓ : Loc nD τ sig) → Buf (Elt F) ℓ) (ρ : Dev nD → PrngReg)

/-- The two windows' staging buffers. -/
abbrev stW (t : Fin cfg0.N) : Memref sig .tc .vmem S40x128 .f32 := win0_0.stage (cfg0.slots t 0)
abbrev stB (t : Fin cfg0.N) : Memref sig .tc .vmem S1x40 .f32 := win0_1.stage (cfg0.slots t 1)
abbrev hstW (t : Fin cfg0.N) : (stW t).IsWhole := hstage0_0 0
abbrev hstB (t : Fin cfg0.N) : (stB t).IsWhole := hstage0_1 0

/-- What the body leaves in the result. -/
def outAt (c : Dev nD) : S10000x40.Idx → Elt F .f32 :=
  OUT c (V m c main_arg0) (v0Of c (stW t0_0) ((stW t0_0).view.rep (iblk m c 0 t0_0))) (v2Of c (stB t0_0) ((stB t0_0).view.rep (iblk m c 1 t0_0)))
/-- The unscoped buffers after the kernel: the result changed, the others as they were. -/
abbrev G (c : Dev nD) : (b : Ref sig .tc) → Buf (Elt F) ((c : Thread nD τ).loc b) := Function.update (V m c) main_v0 (outAt m c)

/-- The buffer that the body reads by its own copies, and the one it writes. -/
abbrev rdRefs : Finset (Ref sig .tc) := {main_arg0}
abbrev wrRefs : Finset (Ref sig .tc) := {main_v0}

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := if t.val = 0 then Pipeline.ΦDRG osem spec0 rdRefs wrRefs (V m) (V m) c else Pipeline.ΦDRG osem spec0 rdRefs wrRefs (V m) (G m) c
  q _ := fullShare
  owed _ := 0

theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

theorem Φ_before (c : Dev nD) (t : Fin cfg0.N) : (dats m 0 c).Φ t.castSucc = Pipeline.ΦDRG osem spec0 rdRefs wrRefs (V m) (V m) c := by
  dsimp only [dats]; rw [if_pos (by rw [fin_N0 t]; rfl)]
theorem Φ_after (c : Dev nD) (t : Fin cfg0.N) : (dats m 0 c).Φ t.succ = Pipeline.ΦDRG osem spec0 rdRefs wrRefs (V m) (G m) c := by
  dsimp only [dats]; rw [if_neg (by rw [Fin.val_succ]; omega)]

/-- The read and the written buffer, listed. -/
theorem rd_eq (c : Dev nD) : (bigSep rdRefs fun b => ((c : Thread nD τ).loc b) ↦{fullShare} V m c b : sProp 𝕄) = bigSep Finset.univ (xhomeP c (V m c main_arg0)) := by
  rw [← x_split, bigSep_singleton]
theorem wr_eq (c : Dev nD) (W : (b : Ref sig .tc) → Buf (Elt F) ((c : Thread nD τ).loc b)) (O : S10000x40.Idx → Elt F .f32) (h : W main_v0 = O) :
    (Pipeline.routed wrRefs c W : sProp 𝕄) = bigSep Finset.univ (fun b => ohomeP c b O) := by
  unfold Pipeline.routed
  rw [← o_split, bigSep_singleton, h]

theorem defs_tc : (defs₀ (F := F)) .tc cfg0.body
    = fun a => bodyG (win0_0.stage (a.2 0)) (hstage0_0 0) (win0_1.stage (a.2 1)) (hstage0_1 0) := rfl
theorem prog_eq (t : Fin cfg0.N) : (defs₀ (F := F)) .tc cfg0.body (cfg0.bodyArgs t (cfg0.slots t)) = bodyG (stW t) (hstW t) (stB t) (hstB t) :=
  (congrFun defs_tc _).trans rfl

set_option backward.isDefEq.respectTransparency.types false in
/-- The body at the one point: every buffer taken apart, the body run, and all of it put together again. -/
theorem body_obligation (c : Dev nD) : BodyObligation (dats (F := F) m 0 c) (defs₀ (F := F)) 𝒱₀ () Set.univ := fun t => by
  rw [bigSep_W0, bigSep_W0]
  dsimp only
  simp only [before_0, before_1, after_0, after_1]
  rw [Φ_before, Φ_after, Pipeline.ΦDRG_eq, Pipeline.ΦDRG_eq, rd_eq,
    wr_eq c (V m c) (V m c main_v0) rfl, wr_eq c (G m c) (outAt m c) (Function.update_self _ _ _)]
  unfold Dat.owesAt Pipeline.owesWithin
  rw [show (dats m 0 c).owed t.castSucc = 0 from rfl, show (dats m 0 c).owed t.succ = 0 from rfl]
  unfold owns
  obtain rfl : t = t0_0 := fin_N0 t
  iintro ⟨⟨Hsc, Hp, Hos, Hx, Ho⟩, ⟨%W, -, HW⟩, ⟨%d0, %g0, %hg0, HA⟩, ⟨%d1, %g1, %hg1, HB⟩⟩
  ihave HA' := (pointsTo_rep_entails (c : Thread nD τ) (stW t0_0) g0 fullShare) $$ HA
  ihave HB' := (pointsTo_rep_entails (c : Thread nD τ) (stB t0_0) g1 fullShare) $$ HB
  rw [hg0, hg1]
  ihave Hfree := (free_in c) $$ [Hsc Hos]
  · isplitl [Hsc]; · iexact Hsc
    iexact Hos
  sl_rw [prog_eq t0_0]
  iapply (bodyRun c (V m c main_arg0) (V m c main_v0) (stW t0_0) (hstW t0_0) (stB t0_0) (hstB t0_0) _ _ _)
  isplitl [HA' HB' Hx Ho Hfree HW]
  · isplitl [HA']; · iexact HA'
    isplitl [HB']; · iexact HB'
    isplitl [Hx]; · iexact Hx
    isplitl [Ho]; · iexact Ho
    isplitl [Hfree]; · iexact Hfree
    unfold owesAny; iexists W; iexact HW
  · unfold owesAny
    iintro ⟨HA, HB, Hx, Ho, Hfree, ⟨%W', HW⟩⟩
    ihave Hback := (free_out c) $$ Hfree
    icases Hback with ⟨Hsc, Hos⟩
    isplitl [Hsc Hp Hos Hx Ho]
    · isplitl [Hsc]; · iexact Hsc
      isplitl [Hp]; · iexact Hp
      isplitl [Hos]; · iexact Hos
      isplitl [Hx]; · iexact Hx
      iexact Ho
    isplitl [HW]
    · iexists W'; isplitr; · ipureintro; exact fun _ _ => Or.inl trivial
      iexact HW
    isplitl [HA]
    · iexists _; isplitr; · ipureintro; exact View.read_rep _ _
      iexact HA
    iexists _; isplitr; · ipureintro; exact View.read_rep _ _
    iexact HB

/-- What a run leaves: the arguments as they were, the result at `outAt`, every semaphore counter at zero. -/
def Post (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_v0) = outAt m c)
  ∧ r.2.sem = fun _ => 0

/-- The whole program's run, at any float values. -/
theorem run_main : θ_run defs (onTc (τ := τ) (main (F := F))) ⟨m, fun _ => 0, ρ⟩ (Post m) :=
  Pipeline.θ_run_frame_dmaRG cfgs (dats m) (0 : Fin 1) launch0 osem defs₀ 𝒱₀ ownSemFacts rdRefs wrRefs (by decide) (by decide) m ρ main
    (hbody := fun c => (body_obligation m c).loose) (hshare := fun c => (dats m 0 c).share_full fun _ => rfl)
    (howed := fun _ _ => rfl) (V := V m)
    (hmain := Pipeline.hmain_prefix cfgs 0 defs₀ 𝒱₀ m main hostOps0 hostOps0_sub hostOps0_fresh main_chain)
    (hA := fun _ _ => rfl) (G := G m)
    (hin := fun c => by rw [show (dats m 0 c).Φ 0 = _ from Φ_before m c t0_0])
    (hout := fun c => by rw [show (dats m 0 c).Φ (Fin.last cfg0.N) = _ from Φ_after m c t0_0])
    (Q' := Post m)
    (hQ' := fun r h => ⟨fun c =>
      ⟨(h.1.1 c).2 main_arg0 (by decide) |>.trans (V_main_arg0 m c),
        (h.1.1 c).2 main_arg1 (by decide) |>.trans (V_main_arg1 m c),
        ((h.1.1 c).1 0).trans (((dats m 0 c).arrAt_in 0 rfl _).trans (V_main_arg2 m c)),
        (h.1.1 c).2 main_arg3 (by decide) |>.trans (V_main_arg3 m c),
        (h.1.2 c main_v0 (by decide)).trans (Function.update_self _ _ _)⟩, h.2⟩)

end Launch
end Cert.Proof.Pipe
end
-- ==== Proof.Scale.lean ====
/-
  The mathematics of one row, over the extended reals: the factor the kernel multiplies a row's product by, the factor
  the reference multiplies the row by, and their equality on the rows that the precondition admits.
-/
module

public import Idealize.ShloMosaic.PureOps.Ideal
@[expose] public section
noncomputable section

namespace Cert.Proof.Value

open Idealize.ShloMosaic
open scoped BigOperators

/-! ## The constants -/

/-- The floor of the norm, the floor of its square, and the ceiling of the tangent. -/
abbrev W15 : ℝ := 9444733 / 2 ^ 73
abbrev W30 : ℝ := 10633824 / 2 ^ 123
abbrev TMAX : ℝ := 8388607 / 8388608

theorem word_half : Ideal.ofBits .f32 0x3F000000#32 = ((1 / 2 : ℝ) : EReal) := by
  simp [Ideal.ofBits, Ideal.ieee]; norm_num; rw [← EReal.coe_mul]; exact congrArg _ (by norm_num)
theorem word_tmax : Ideal.ofBits .f32 0x3F7FFFFE#32 = ((TMAX : ℝ) : EReal) := by
  simp [Ideal.ofBits, Ideal.ieee]; norm_num; rw [← EReal.coe_mul]; exact congrArg _ (by norm_num)
theorem word_ntmax : Ideal.ofBits .f32 0xBF7FFFFE#32 = ((-TMAX : ℝ) : EReal) := by
  simp [Ideal.ofBits, Ideal.ieee]; norm_num; rw [← EReal.coe_mul]; exact congrArg _ (by norm_num)
theorem word_w15 : Ideal.ofBits .f32 0x26901D7D#32 = ((W15 : ℝ) : EReal) := by
  simp [Ideal.ofBits, Ideal.ieee]; norm_num; rw [← EReal.coe_mul]; exact congrArg _ (by norm_num)
theorem word_w30 : Ideal.ofBits .f32 0x0DA24260#32 = ((W30 : ℝ) : EReal) := by
  simp [Ideal.ofBits, Ideal.ieee]; norm_num; rw [← EReal.coe_mul]; exact congrArg _ (by norm_num)
theorem w30_lt : W30 < W15 * W15 := by unfold W15 W30; norm_num

/-! ## The two factors of a row whose squares sum to `q` -/

/-- The kernel's: `½ · rsqrt(max(q, w30)) · (log(1 + t) − log(1 − t))` with `t = min(q · rsqrt(max(q, w30)), tmax)`. -/
def kScale (q : EReal) : EReal :=
  Ideal.ofBits .f32 0x3F000000#32 * Ideal.rsqrt (max q (Ideal.ofBits .f32 0x0DA24260#32))
    * (Ideal.log (1 + min (q * Ideal.rsqrt (max q (Ideal.ofBits .f32 0x0DA24260#32))) (Ideal.ofBits .f32 0x3F7FFFFE#32))
      - Ideal.log (1 - min (q * Ideal.rsqrt (max q (Ideal.ofBits .f32 0x0DA24260#32))) (Ideal.ofBits .f32 0x3F7FFFFE#32)))
/-- The reference's: `artanh(clip(p, −tmax, tmax)) / p` with `p = max(√q, w15)`. -/
def rScale (q : EReal) : EReal :=
  Ideal.div (Ideal.atanh (min (Ideal.ofBits .f32 0x3F7FFFFE#32)
      (max (Ideal.ofBits .f32 0xBF7FFFFE#32) (max (Ideal.sqrt q) (Ideal.ofBits .f32 0x26901D7D#32)))))
    (max (Ideal.sqrt q) (Ideal.ofBits .f32 0x26901D7D#32))

theorem coe_min (a b : ℝ) : min (a : EReal) (b : EReal) = ((min a b : ℝ) : EReal) := (EReal.coe_strictMono.monotone.map_min).symm
theorem coe_max (a b : ℝ) : max (a : EReal) (b : EReal) = ((max a b : ℝ) : EReal) := (EReal.coe_strictMono.monotone.map_max).symm

/-- `artanh` as the kernel computes it. -/
theorem artanh_eq (t : ℝ) (h0 : 0 ≤ t) (h1 : t < 1) : Real.artanh t = 1 / 2 * (Real.log (1 + t) - Real.log (1 - t)) := by
  rw [Real.artanh_eq_half_log ⟨by linarith, by linarith⟩, Real.log_div (by linarith) (by linarith)]

theorem atanh_clip (t : ℝ) (h0 : 0 ≤ t) (h1 : t < 1) : Ideal.atanh (t : EReal) = ((Real.artanh t : ℝ) : EReal) := by
  rw [Ideal.atanh_coe, if_neg (by linarith), if_neg (by linarith), if_pos ⟨by linarith, h1⟩]

/-- On an admitted row that is not zero the two factors are one nonnegative real. -/
theorem scale_eq (q : EReal) (hq : 0 ≤ q) (h : Ideal.ofBits .f32 0x26901D7D#32 ≤ Ideal.sqrt q) :
    ∃ a : ℝ, 0 ≤ a ∧ kScale q = (a : EReal) ∧ rScale q = (a : EReal) := by
  have hT0 : (0 : ℝ) < TMAX := by unfold TMAX; norm_num
  have hT1 : TMAX < 1 := by unfold TMAX; norm_num
  have hW : (0 : ℝ) < W15 := by unfold W15; norm_num
  unfold kScale rScale
  rw [max_eq_left h, word_half, word_tmax, word_ntmax, word_w30]
  rw [word_w15] at h
  induction q with
  | bot => exact absurd hq (by simp)
  | top =>
    refine ⟨0, le_rfl, ?_, ?_⟩
    · rw [max_eq_left le_top, Ideal.rsqrt_top]; simp
    · rw [Ideal.sqrt_top, max_eq_right le_top, min_eq_left le_top, atanh_clip _ hT0.le hT1]
      unfold Ideal.div; rw [if_neg (by simp)]; simp
  | coe r =>
    have hr : 0 ≤ r := by exact_mod_cast hq
    rw [Ideal.sqrt_coe, if_neg (not_lt.2 hr)] at h ⊢
    have hs : W15 ≤ Real.sqrt r := by exact_mod_cast h
    have hsp : 0 < Real.sqrt r := lt_of_lt_of_le hW hs
    have hrp : 0 < r := Real.sqrt_pos.1 hsp
    have hge : W30 ≤ r := by
      have := mul_le_mul hs hs hW.le hsp.le
      rw [Real.mul_self_sqrt hr] at this
      exact (w30_lt.le).trans this
    have e1 : r * (Real.sqrt r)⁻¹ = Real.sqrt r := by
      rw [← div_eq_mul_inv, Real.div_sqrt]
    rw [coe_max, max_eq_left hge, Ideal.rsqrt_coe, if_neg (not_lt.2 hr), if_neg hrp.ne', ← EReal.coe_mul r, e1, coe_max,
      max_eq_right (by linarith), coe_min, coe_min, min_comm TMAX]
    have ht0 : 0 ≤ min (Real.sqrt r) TMAX := le_min hsp.le hT0.le
    have ht1 : min (Real.sqrt r) TMAX < 1 := (min_le_right _ _).trans_lt hT1
    generalize min (Real.sqrt r) TMAX = t at ht0 ht1
    refine ⟨Real.artanh t * (Real.sqrt r)⁻¹, ?_, ?_, ?_⟩
    · refine mul_nonneg ?_ (inv_nonneg.2 hsp.le)
      rw [artanh_eq t ht0 ht1]
      have := Real.log_le_log (by linarith : 0 < 1 - t) (by linarith : 1 - t ≤ 1 + t)
      linarith
    · rw [show (1 : EReal) + (t : EReal) = ((1 + t : ℝ) : EReal) from by rw [EReal.coe_add, EReal.coe_one],
        show (1 : EReal) - (t : EReal) = ((1 - t : ℝ) : EReal) from by rw [EReal.coe_sub, EReal.coe_one],
        Ideal.log_coe, Ideal.log_coe, if_neg (by linarith), if_neg (by linarith), ← EReal.coe_sub, ← EReal.coe_mul, ← EReal.coe_mul,
        artanh_eq t ht0 ht1]
      exact congrArg _ (by ring)
    · rw [atanh_clip t ht0 ht1, Ideal.div_coe hsp.ne', ← EReal.coe_mul, one_div]

/-! ## A row -/

/-- A square of an extended real is nonnegative. -/
theorem sq_nonneg_ext (x : EReal) : 0 ≤ x * x := by
  induction x with
  | bot => simp
  | top => simp
  | coe r => rw [← EReal.coe_mul]; exact_mod_cast mul_self_nonneg r

/-- Squares of extended reals that sum to zero are zero. -/
theorem row_zero {n : ℕ} (x : Fin n → EReal) (h : ∑ k, x k * x k = 0) (k : Fin n) : x k = 0 := by
  have hn : ∀ k ∈ Finset.univ, 0 ≤ x k * x k := fun k _ => sq_nonneg_ext _
  have := (Finset.sum_eq_zero_iff_of_nonneg hn).1 h k (Finset.mem_univ _)
  rcases mul_eq_zero.1 this with e | e <;> exact e

/-- A nonnegative real factor goes into a sum of extended reals. -/
theorem mul_sum_real {ι : Type} (s : Finset ι) (a : ℝ) (ha : 0 ≤ a) (f : ι → EReal) : (a : EReal) * ∑ k ∈ s, f k = ∑ k ∈ s, (a : EReal) * f k := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- One entry of the product: the kernel scales the product, the reference scales the row. -/
theorem row_eq {n : ℕ} (x w : Fin n → EReal)
    (h : Ideal.sqrt (∑ k, x k * x k) = 0 ∨ Ideal.ofBits .f32 0x26901D7D#32 ≤ Ideal.sqrt (∑ k, x k * x k)) :
    kScale (∑ k, x k * x k) * ∑ k, x k * w k = ∑ k, rScale (∑ k, x k * x k) * x k * w k := by
  have hq : 0 ≤ ∑ k, x k * x k := Finset.sum_nonneg fun k _ => sq_nonneg_ext _
  rcases h with h | h
  · have h0 : ∑ k, x k * x k = 0 := by
      revert hq h
      generalize ∑ k, x k * x k = q
      intro hq h
      induction q with
      | bot => exact absurd hq (by simp)
      | top => exact absurd h (by simp)
      | coe r =>
        have hr : 0 ≤ r := by exact_mod_cast hq
        rw [Ideal.sqrt_coe, if_neg (not_lt.2 hr)] at h
        have : Real.sqrt r = 0 := by exact_mod_cast h
        rw [(Real.sqrt_eq_zero hr).1 this]; rfl
    have hx := row_zero x h0
    simp [hx]
  · obtain ⟨a, ha, ek, er⟩ := scale_eq _ hq h
    rw [ek, er, mul_sum_real _ a ha]
    exact Finset.sum_congr rfl fun k _ => (mul_assoc _ _ _).symm

end Cert.Proof.Value
end
-- ==== Proof.Value.lean ====
/-
  The value of the result: what the kernel leaves at an index, what the reference leaves there, and their equality
  under the precondition.
-/
module

public import proofs.«01_k».proof.Proof.Launch
public import proofs.«01_k».proof.Proof.Scale
public import proofs.«01_k».proof.Proof.Gen.ReferenceIdeal.Run
public import proofs.«01_k».proof.Proof.Gen.Pre_row_norms
public import Idealize.ShloMosaic.Lib.Claim
public import Idealize.ShloMosaic.Lib.Pointwise
public import Idealize.ShloMosaic.Lib.ReduceAll
public import Idealize.ShloMosaic.Lib.VecWindow
public import Idealize.ShloMosaic.Lib.Pipeline.ValueKit
@[expose] public section
noncomputable section

namespace Cert.Proof.Value

open Idealize.ShloMosaic Idealize.ShloMosaic.TcCoe
open Idealize.SL.Sem
open scoped BigOperators

/-! ## The kernel at an index -/

section Kernel
open Cert.KernelIdeal Cert.KernelIdeal.Gen
open Cert.Proof.Pipe

/-- The body's arithmetic at row `r` of a block, column `j`. -/
theorem pay_read (v0 : Vec Ideal S40x128 .f32) (v2 : FVec Ideal S1x40 .f32) (xb : Vec Ideal S1x1000x128 .f32) (r : Fin 1000) (j : Fin 40) :
    shapeCast S1000x40 (k0_pay2 v2 (k0_pay1 v0 xb)) castO (ix2 r j)
      = kScale (∑ k, xb (ix3 0 r k) * xb (ix3 0 r k)) * (∑ k, xb (ix3 0 r k) * v0 (ix2 j k)) + v2 (ix2 0 j) := by
  pointwise [k0_pay2, k0_pay1]
  rfl

variable (m : (ℓ : Loc nD τ sig) → Buf (Elt Ideal) ℓ) (c : Dev nD)

/-- A block of `x` reads `x` a thousand rows further for each block before it. -/
theorem xin_read (XA : S10000x128.Idx → Elt Ideal .f32) (b : Fin 10) (r : Fin 1000) (k : Fin 128) (i : Fin 10000) (h : i.val = 1000 * b.val + r.val) :
    xin c XA b (ix3 0 r k) = XA (ix2 i k) := by
  unfold xin
  pointwise []
  show XA ((xblk b).view.emb (ix2 r k)) = XA (ix2 i k)
  refine congrArg XA ?_
  funext a; apply Fin.ext
  match a with
  | ⟨0, _⟩ => show 1000 * b.val + 1 * r.val = i.val; omega
  | ⟨1, _⟩ => show 0 + 1 * k.val = k.val; omega

/-- The matrix that the body reads is the third argument. -/
theorem w_read : v0Of c (stW t0_0) ((stW t0_0).view.rep (iblk m c 0 t0_0)) = m ((c : Thread nD τ).loc main_arg2) := by
  unfold v0Of
  refine (View.readAt_rep_full (Val := Elt Ideal) _ _ _).trans ?_
  rw [← V_main_arg2 m c]
  funext y
  show V m c main_arg2 (((cfg0.win 0).blk t0_0).view.emb y) = V m c main_arg2 y
  refine congrArg _ ?_
  funext a; apply Fin.ext
  match a with
  | ⟨0, _⟩ => show 0 + 1 * (y 0).val = (y 0).val; omega
  | ⟨1, _⟩ => show 0 + 1 * (y 1).val = (y 1).val; omega

/-- The bias that the body reads is the fourth argument. -/
theorem b_read (j : Fin 40) : v2Of c (stB t0_0) ((stB t0_0).view.rep (iblk m c 1 t0_0)) (ix2 0 j) = (m ((c : Thread nD τ).loc main_arg3) : S40.Idx → EReal) (ix1 j) := by
  unfold v2Of
  pointwise [k0_pay3]
  refine (congrFun (View.readAt_rep_full (Val := Elt Ideal) (View.whole cc0_stg1_0) _ _) (ix2 0 j)).trans ?_
  have e : (win0_1.blk t0_0).view.emb (ix2 0 j) = ix2 (0 : Fin 1) j := by
    funext a; apply Fin.ext
    match a with
    | ⟨0, _⟩ => rfl
    | ⟨1, _⟩ => show 0 + 1 * j.val = j.val; omega
  show V m c main_call0_v0 ((win0_1.blk t0_0).view.emb (ix2 0 j)) = _
  rw [e]
  entry_read
  show broadcastInDim S1x40 ![1] bcast_S40_S1x40_1 (m ((c : Thread nD τ).loc main_arg3)) (ix2 0 j) = _
  pointwise []

/-- The result at row `r`, column `j`. -/
theorem out_read (r : Fin 10000) (j : Fin 40) (x : S10000x128.Idx → EReal) (w : S40x128.Idx → EReal) (b : S40.Idx → EReal)
    (hx : m ((c : Thread nD τ).loc main_arg0) = x) (hw : m ((c : Thread nD τ).loc main_arg2) = w) (hb : m ((c : Thread nD τ).loc main_arg3) = b) :
    outAt m c (ix2 r j) = kScale (∑ k, x (ix2 r k) * x (ix2 r k)) * (∑ k, x (ix2 r k) * w (ix2 j k)) + b (ix1 j) := by
  unfold outAt
  have hr := r.isLt
  have e0 : r.val = 1000 * (Ring.bk 10 (r.val / 1000)).val + r.val % 1000 := by
    rw [Ring.bk_val (by omega)]; omega
  rw [OUT_at (b := Ring.bk 10 (r.val / 1000)) (x := ix2 (⟨r.val % 1000, Nat.mod_lt _ (by decide)⟩ : Fin 1000) j) (i := ix2 r j) (e0 := e0) (e1 := rfl), w_read]
  unfold outBlk
  rw [pay_read, b_read, V_main_arg0]
  have e k := xin_read c (m ((c : Thread nD τ).loc main_arg0)) (Ring.bk 10 (r.val / 1000)) (⟨r.val % 1000, Nat.mod_lt _ (by decide)⟩ : Fin 1000) k r e0
  subst hx hw hb
  simp only [e]

end Kernel

/-! ## The reference at an index -/

section Reference
open Cert.ReferenceIdeal Cert.ReferenceIdeal.Gen

/-- The reference's result, of its three float arguments. -/
def refOut (x : FVec Ideal S10000x128 .f32) (w : FVec Ideal S40x128 .f32) (b : FVec Ideal S40 .f32) : FVec Ideal S10000x40 .f32 :=
  addf (Host.dotGeneral dot_S10000x128_S128x40_S10000x40_1_0_0_1_n_n none (mulf (broadcastInDim S10000x128 ![0, 1] bcast_S10000x1_S10000x128_0_1 (Host.divf (mulf (broadcastInDim S10000x1 ![] bcast_S_S10000x1 (constant S_ .f32 0x3F800000#32)) (Host.atanh (minimumf (broadcastInDim S10000x1 ![] bcast_S_S10000x1 (id (constant S_ .f32 0x3F7FFFFE#32))) (maximumf (broadcastInDim S10000x1 ![] bcast_S_S10000x1 (id (constant S_ .f32 0xBF7FFFFE#32))) (mulf (broadcastInDim S10000x1 ![] bcast_S_S10000x1 (constant S_ .f32 0x3F800000#32)) (maximumf (Host.sqrt (broadcastInDim S10000x1 ![0] bcast_S10000_S10000x1_0 (Host.reduceAdd (mulf x x) (constant S_ .f32 0x00000000#32) reducesTo_S10000x128_S10000_d1 h_S_))) (broadcastInDim S10000x1 ![] bcast_S_S10000x1 (constant S_ .f32 0x26901D7D#32)))))))) (maximumf (Host.sqrt (broadcastInDim S10000x1 ![0] bcast_S10000_S10000x1_0 (Host.reduceAdd (mulf x x) (constant S_ .f32 0x00000000#32) reducesTo_S10000x128_S10000_d1 h_S_))) (broadcastInDim S10000x1 ![] bcast_S_S10000x1 (constant S_ .f32 0x26901D7D#32))))) x) (transpose S128x40 [1, 0] w transposes_S40x128_S128x40_1_0)) (broadcastInDim S10000x40 ![0, 1] bcast_S1x40_S10000x40_0_1 (broadcastInDim S1x40 ![1] bcast_S40_S1x40_1 b))

theorem ref_read (x : FVec Ideal S10000x128 .f32) (w : FVec Ideal S40x128 .f32) (b : FVec Ideal S40 .f32) (r : Fin 10000) (j : Fin 40) :
    refOut x w b (ix2 r j) = (∑ k, rScale (∑ k, x (ix2 r k) * x (ix2 r k)) * x (ix2 r k) * w (ix2 j k)) + b (ix1 j) := by
  pointwise [refOut, id]
  rfl

end Reference

/-! ## The precondition at a row -/

section Precondition
open Cert.Pre_row_norms Cert.Pre_row_norms.Gen

theorem ori_ofBool (p q : Bool) (h : IntOp.ori (BitVec.ofBool p) (BitVec.ofBool q) = 1#1) : p = true ∨ q = true := by
  revert h; cases p <;> cases q <;> decide

/-- Every row's norm is zero or at least the floor. -/
theorem pre_read (x : FVec Ideal S10000x128 .f32) (a1 : IVec S2x320000 32) (a2 : FVec Ideal S40x128 .f32) (a3 : FVec Ideal S40 .f32)
    (h : fn (F := Ideal) x a1 a2 a3 = fun _ => 1#1) (r : Fin 10000) :
    Ideal.sqrt (∑ k, x (ix2 r k) * x (ix2 r k)) = 0 ∨ Ideal.ofBits .f32 0x26901D7D#32 ≤ Ideal.sqrt (∑ k, x (ix2 r k) * x (ix2 r k)) := by
  have e := Host.reduce_andi_all _ _ _ _ _ (congrFun h ix0) (ix2 r (0 : Fin 1))
  pointwise [fn_norm] at e
  exact (ori_ofBool _ _ e).imp of_decide_eq_true of_decide_eq_true

end Precondition

/-! ## The two results agree -/

/-- Under the precondition the kernel's result array is the reference's, of the same arguments. -/
theorem result_eq (m : (ℓ : Loc Cert.KernelIdeal.nD Cert.KernelIdeal.τ Cert.KernelIdeal.sig) → Buf (Elt Ideal) ℓ) (c : Dev Cert.KernelIdeal.nD)
    (x : FVec Ideal Cert.ReferenceIdeal.S10000x128 .f32) (a : IVec Cert.ReferenceIdeal.S2x320000 32) (w : FVec Ideal Cert.ReferenceIdeal.S40x128 .f32) (b : FVec Ideal Cert.ReferenceIdeal.S40 .f32)
    (hx : m ((c : Thread Cert.KernelIdeal.nD Cert.KernelIdeal.τ).loc Cert.KernelIdeal.main_arg0) = x)
    (hw : m ((c : Thread Cert.KernelIdeal.nD Cert.KernelIdeal.τ).loc Cert.KernelIdeal.main_arg2) = w)
    (hb : m ((c : Thread Cert.KernelIdeal.nD Cert.KernelIdeal.τ).loc Cert.KernelIdeal.main_arg3) = b)
    (h : Cert.Pre_row_norms.fn (F := Ideal) x a w b = fun _ => 1#1) :
    refOut x w b = Cert.Proof.Pipe.outAt m c := by
  funext i
  obtain ⟨r, j, rfl⟩ : ∃ (r : Fin 10000) (j : Fin 40), i = ix2 r j := ⟨i 0, i 1, ValueIdx.eq_ix2 i⟩
  refine (ref_read x w b r j).trans (Eq.symm ((out_read m c r j x w b hx hw hb).trans ?_))
  exact congrArg (· + b (ix1 j)) (row_eq (fun k => x (ix2 r k)) (fun k => w (ix2 j k)) (pre_read x a w b h r))

end Cert.Proof.Value
end
-- ==== Proof.lean ====
/-
  The proof of `Cert.Claim`. The kernel's run, at any float values, is `Pipe.run_main`: the two frames of the kernel are
  that run at the two float instances, and its result array is `Pipe.outAt`. The reference is a straight line of host
  operations, whose run gives its result as one term of the arguments. `Value.result_eq` is the equality of the two.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_row_norms
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The two printings of the kernel have one body table: at its one label the bodies have the same text. -/
theorem defs₀_eq : Cert.Kernel.defs₀ (F := Bits) = Cert.KernelIdeal.defs₀ (F := Bits) := by
  funext p l a
  cases p with
  | tc =>
    obtain ⟨l, hl⟩ := l
    match l with
    | 0 => rfl
  | scScalar _ => rfl
  | scVector _ _ => rfl

theorem defs_eq : Cert.Kernel.defs (F := Bits) = Cert.KernelIdeal.defs (F := Bits) :=
  congrArg (Pipeline.defs Cert.Kernel.pcfgs) defs₀_eq

/-- The kernel, on its own floats: the same run, its post weakened to the arguments and the counters. -/
theorem frame_kernel : Cert.quiescent_Kernel := fun m ρ _ => by
  rw [defs_eq]
  exact (θ_run Cert.KernelIdeal.defs _ _).mono (fun _ h => ⟨fun c => ⟨(h.1 c).1, (h.1 c).2.1, (h.1 c).2.2.1, (h.1 c).2.2.2.1⟩, h.2⟩)
    (Pipe.run_main (F := Bits) m ρ)

/-- The kernel on extended reals, from any memory. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (Pipe.run_main (F := Ideal) m ρ)

/-- The reference, from any memory; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories with equal arguments, under the precondition, the two programs end with equal results. -/
theorem value : Cert.algebraic_KernelIdeal_ReferenceIdeal_pre_row_norms := by
  intro m ρ m' ρ' hpre hargs
  refine ⟨fun c => Pipe.outAt m c, ?_, ?_⟩
  · exact (θ_run Cert.KernelIdeal.defs _ _).mono
      (fun _ h c => ⟨(h.1 c).2.2.2.2, (h.1 c).1, (h.1 c).2.1, (h.1 c).2.2.1, (h.1 c).2.2.2.1⟩) (Pipe.run_main (F := Ideal) m ρ)
  · refine (θ_run Cert.ReferenceIdeal.defs _ _).mono (fun _ h c => ⟨(h c).1.trans ?_, (h c).2⟩) (Cert.ReferenceIdeal.Value.run (F := Ideal) m' ρ')
    obtain ⟨e0, e1, e2, e3⟩ := hargs c
    rw [e0, e2, e3]
    exact Value.result_eq m c _ _ _ _ rfl rfl rfl (hpre c)

/-- All seven claims. -/
theorem claim : Cert.Claim :=
  ⟨Cert.Kernel.Gen.facts, Cert.KernelIdeal.Gen.facts, Cert.ReferenceIdeal.Gen.facts, Cert.Pre_row_norms.Gen.facts,
    frame_kernel, frame_ideal, fun m g _ => frame_ideal m g trivial, frame_reference, fun m g _ => frame_reference m g trivial, trivial, value⟩

end Cert.Proof

end
